-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "one_sixth" .f32 0x3E2AAAAB#32 ((6⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S10000x40 : Shape := ⟨2, ![10000, 40]⟩
abbrev S1x40 : Shape := ⟨2, ![1, 40]⟩
abbrev S512x10000 : Shape := ⟨2, ![512, 10000]⟩
abbrev S512x128 : Shape := ⟨2, ![512, 128]⟩
abbrev S512x40 : Shape := ⟨2, ![512, 40]⟩
abbrev S1024x10000 : Shape := ⟨2, ![1024, 10000]⟩
abbrev S1024x40 : Shape := ⟨2, ![1024, 40]⟩

abbrev nBuf : Space → Nat
  | .hbm => 12
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x128, .f32⟩
  | .hbm, ⟨7, _⟩ => ⟨S10000x128, .f32⟩
  | .hbm, ⟨8, _⟩ => ⟨S10000x10000, .fp8e4m3⟩
  | .hbm, ⟨9, _⟩ => ⟨S10000x40, .fp8e4m3⟩
  | .hbm, ⟨10, _⟩ => ⟨S1x40, .f32⟩
  | .hbm, ⟨11, _⟩ => ⟨S10000x40, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x40, .f32⟩
  | .local _ .vmem, ⟨4, _⟩ => ⟨S512x10000, .f32⟩
  | .local _ .vmem, ⟨5, _⟩ => ⟨S512x10000, .f32⟩
  | .local _ .vmem, ⟨6, _⟩ => ⟨S512x128, .f32⟩
  | .local _ .vmem, ⟨7, _⟩ => ⟨S512x128, .f32⟩
  | .local _ .vmem, ⟨8, _⟩ => ⟨S512x10000, .fp8e4m3⟩
  | .local _ .vmem, ⟨9, _⟩ => ⟨S512x10000, .fp8e4m3⟩
  | .local _ .vmem, ⟨10, _⟩ => ⟨S512x40, .fp8e4m3⟩
  | .local _ .vmem, ⟨11, _⟩ => ⟨S512x40, .fp8e4m3⟩
  | .local _ .vmem, ⟨12, _⟩ => ⟨S10000x128, .f32⟩
  | .local _ .vmem, ⟨13, _⟩ => ⟨S10000x40, .fp8e4m3⟩
  | .local _ .vmem, ⟨14, _⟩ => ⟨S1x40, .f32⟩
  | .local _ .vmem, ⟨15, _⟩ => ⟨S1024x10000, .fp8e4m3⟩
  | .local _ .vmem, ⟨16, _⟩ => ⟨S1024x10000, .fp8e4m3⟩
  | .local _ .vmem, ⟨17, _⟩ => ⟨S1024x40, .f32⟩
  | .local _ .vmem, ⟨18, _⟩ => ⟨S1024x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0_0 : Ref sig .tc := ⟨.hbm, 7, rfl⟩
abbrev main_call0_v1_1 : Ref sig .tc := ⟨.hbm, 8, rfl⟩
abbrev main_call0_v1_2 : Ref sig .tc := ⟨.hbm, 9, rfl⟩
abbrev main_call0_v2 : Ref sig .tc := ⟨.hbm, 10, rfl⟩
abbrev main_v0_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x10000 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x40 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x40 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x10000 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "one_sixth" => some ((6⁻¹ : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S10000x40 : Shape := ⟨2, ![10000, 40]⟩
abbrev S1x40 : Shape := ⟨2, ![1, 40]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x40, .f32⟩
  | .hbm, ⟨15, _⟩ => ⟨S10000x40, .f32⟩
  | .hbm, ⟨16, _⟩ => ⟨S1x40, .f32⟩
  | .hbm, ⟨17, _⟩ => ⟨S10000x40, .f32⟩
  | .hbm, ⟨18, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.KernelIdeal.Entries.lean ====
/-
  The values the two calls compute and the values the reference computes, read entry by entry over the extended reals. A row of a call's
  result depends only on the same row of the adjacency block, so it agrees with the reference's row wherever that row of the block is a
  row of the adjacency matrix. The scale 6 of the adjacency entries and the scale 6⁻¹ of the second product's right operand cancel.
-/
module

public import proofs.«01_k».proof.Proof.Gen.KernelIdeal.Skeleton
public import proofs.«01_k».proof.Proof.Gen.ReferenceIdeal
public import Idealize.ShloMosaic.Lib.StackMember
public import Idealize.ShloMosaic.Lib.MatmulPlain
public import Idealize.ShloMosaic.Lib.Pipeline.ValueKit

@[expose] public section

set_option maxRecDepth 16384

noncomputable section

namespace Cert.KernelIdeal.Value

open Cert.KernelIdeal Cert.KernelIdeal.Gen
open Idealize.ShloMosaic

/-! ## Constants -/

theorem six : (Scalar.ofBits .f32 0x40C00000#32 : Ideal .f32) = ((6 : ℝ) : EReal) := by
  show Ideal.ofBits .f32 0x40C00000#32 = _
  simp [Ideal.ofBits, Ideal.ieee, -EReal.coe_mul]; norm_num

theorem zero : (Scalar.ofBits .f32 0x00000000#32 : Ideal .f32) = 0 := Ideal.ofBits_zero_f32

theorem sixth : (Named.named (F := Ideal) κ "one_sixth" 0x3E2AAAAB#32 : Ideal .f32) = ((6⁻¹ : ℝ) : EReal) := rfl

theorem unscale (a s : EReal) : a * ((6 : ℝ) : EReal) * (s * ((6⁻¹ : ℝ) : EReal)) = a * s := by
  rw [mul_mul_mul_comm, ← EReal.coe_mul, mul_inv_cancel₀ (by norm_num), EReal.coe_one, mul_one]

/-! ## The reference's values -/

section Reference

open Cert.ReferenceIdeal.Gen

variable (X : FVec Ideal S10000x128 .f32) (A : FVec Ideal S10000x10000 .f32) (W1 : FVec Ideal S128x128 .f32) (b1 : FVec Ideal S128 .f32)
  (W2 : FVec Ideal S128x40 .f32) (b2 : FVec Ideal S40 .f32)

/-- The first layer's support, x · W1. -/
def refS1 : FVec Ideal S10000x128 .f32 := Host.dotGeneral Cert.ReferenceIdeal.dot_S10000x128_S128x128_S10000x128_1_0_0_1_n_n none X W1
/-- The first layer, the maximum of adj · (x · W1) + b1 and 0. -/
def refH : FVec Ideal S10000x128 .f32 :=
  maximumf (addf (Host.dotGeneral Cert.ReferenceIdeal.dot_S10000x10000_S10000x128_S10000x128_1_0_0_1_n_n none A (refS1 X W1))
      (broadcastInDim S10000x128 ![0, 1] bcast_S1x128_S10000x128_0_1 (broadcastInDim S1x128 ![1] bcast_S128_S1x128_1 b1)))
    (broadcastInDim S10000x128 ![] bcast_S_S10000x128 (constant Cert.ReferenceIdeal.S_ .f32 0x00000000#32))
/-- The second layer's support, h · W2. -/
def refS2 : FVec Ideal S10000x40 .f32 :=
  Host.dotGeneral Cert.ReferenceIdeal.dot_S10000x128_S128x40_S10000x40_1_0_0_1_n_n none (refH X A W1 b1) W2
/-- The second layer, adj · (h · W2) + b2. -/
def refOut : FVec Ideal S10000x40 .f32 :=
  addf (Host.dotGeneral Cert.ReferenceIdeal.dot_S10000x10000_S10000x40_S10000x40_1_0_0_1_n_n none A (refS2 X A W1 b1 W2))
    (broadcastInDim S10000x40 ![0, 1] bcast_S1x40_S10000x40_0_1 (broadcastInDim S1x40 ![1] bcast_S40_S1x40_1 b2))

theorem bias_apply {n : ℕ} (h1 : (⟨1, ![n]⟩ : Shape).BroadcastsInDim ⟨2, ![1, n]⟩ ![1]) (h2 : (⟨2, ![1, n]⟩ : Shape).BroadcastsInDim ⟨2, ![10000, n]⟩ ![0, 1])
    (b : FVec Ideal ⟨1, ![n]⟩ .f32) (r : Fin 10000) (c : Fin n) :
    broadcastInDim ⟨2, ![10000, n]⟩ ![0, 1] h2 (broadcastInDim ⟨2, ![1, n]⟩ ![1] h1 b) (ix2 r c) = b (ix1 c) := by
  show b _ = b _
  congr 1
  funext a
  obtain rfl : a = 0 := Subsingleton.elim _ _
  apply Fin.ext
  have := c.isLt
  by_cases hn : n = 1
  · subst hn; simp
  · simp [hn]

theorem refH_apply (r : Fin 10000) (c : Fin 128) :
    refH X A W1 b1 (ix2 r c) = max ((∑ k : Fin 10000, A (ix2 r k) * refS1 X W1 (ix2 k c)) + b1 (ix1 c)) 0 :=
  congrArg₂ max (congrArg₂ (· + ·) (StackMember.dotGeneral_plain_apply none A (refS1 X W1) r c) (bias_apply _ _ b1 r c)) Ideal.ofBits_zero_f32

theorem refS2_apply (r : Fin 10000) (c : Fin 40) :
    refS2 X A W1 b1 W2 (ix2 r c) = ∑ j : Fin 128, refH X A W1 b1 (ix2 r j) * W2 (ix2 j c) :=
  StackMember.dotGeneral_plain_apply none (refH X A W1 b1) W2 r c

theorem refOut_apply (r : Fin 10000) (c : Fin 40) :
    refOut X A W1 b1 W2 b2 (ix2 r c) = (∑ k : Fin 10000, A (ix2 r k) * refS2 X A W1 b1 W2 (ix2 k c)) + b2 (ix1 c) :=
  congrArg₂ (· + ·) (StackMember.dotGeneral_plain_apply none A (refS2 X A W1 b1 W2) r c) (bias_apply _ _ b2 r c)

end Reference

/-! ## The calls' values -/

section Calls

theorem pay1_eq (X : FVec Ideal S10000x128 .f32) (W1 : FVec Ideal S128x128 .f32) : k0_pay1 (F := Ideal) X W1 = refS1 X W1 := by
  unfold k0_pay1 refS1
  dsimp only
  rw [shapeCast_self]
  exact matmul_zero_eq_dotGeneral _ none X W1

theorem rowBias_apply {m n : ℕ} (h0 : (⟨2, ![1, n]⟩ : Shape).ShapeCasts ⟨2, ![1, n]⟩) (h : (⟨2, ![1, n]⟩ : Shape).Broadcasts ⟨2, ![m, n]⟩)
    (b : FVec Ideal ⟨2, ![1, n]⟩ .f32) (r : Fin m) (c : Fin n) :
    broadcastTo ⟨2, ![m, n]⟩ (shapeCast ⟨2, ![1, n]⟩ b h0) h (ix2 r c) = b (ix2 0 c) := by
  rw [shapeCast_self]
  show b _ = b _
  congr 1
  funext a
  apply Fin.ext
  have := c.isLt
  match a with
  | ⟨0, _⟩ => simp [ix2]
  | ⟨1, _⟩ =>
    by_cases hn : n = 1
    · simp [hn, ix2]; omega
    · simp [hn, ix2]

theorem product_apply {m k n : ℕ} {φ₁ φ₂ : FTy} (A : FVec Ideal ⟨2, ![m, k]⟩ φ₁) (B : FVec Ideal ⟨2, ![k, n]⟩ φ₂) (r : Fin m) (c : Fin n) :
    matmul (DotDims.plain m k n) none A B (constant ⟨2, ![m, n]⟩ .f32 0x00000000#32) (ix2 r c) = ∑ j, A (ix2 r j) * B (ix2 j c) := by
  rw [matmul_zero_eq_dotGeneral]
  exact StackMember.dotGeneral_plain_apply none A B r c

variable (v : FVec Ideal S512x10000 .f32) (S1 : FVec Ideal S10000x128 .f32) (B1 : FVec Ideal S1x128 .f32) (V2 : FVec Ideal S128x40 .f32)

theorem pay2_apply (r : Fin 512) (c : Fin 128) :
    k0_pay2 v S1 B1 (ix2 r c) = max ((∑ k : Fin 10000, v (ix2 r k) * S1 (ix2 k c)) + B1 (ix2 0 c)) 0 :=
  congrArg₂ max (congrArg₂ (· + ·) (product_apply v S1 r c) (rowBias_apply _ _ B1 r c)) Ideal.ofBits_zero_f32

theorem pay3_apply (r : Fin 512) (k : Fin 10000) : (k0_pay3 (F := Ideal) v (ix2 r k) : EReal) = v (ix2 r k) * ((6 : ℝ) : EReal) :=
  congrArg (v (ix2 r k) * ·) six

theorem pay4_apply (r : Fin 512) (c : Fin 40) :
    (k0_pay4 (F := Ideal) v S1 B1 V2 (ix2 r c) : EReal) = (∑ j : Fin 128, k0_pay2 v S1 B1 (ix2 r j) * V2 (ix2 j c)) * ((6⁻¹ : ℝ) : EReal) :=
  congrArg₂ (· * ·) (product_apply (k0_pay2 v S1 B1) V2 r c) sixth

theorem pay1'_apply (q : FVec Ideal S1024x10000 .fp8e4m3) (s : FVec Ideal S10000x40 .fp8e4m3) (B2 : FVec Ideal S1x40 .f32) (r : Fin 1024) (c : Fin 40) :
    (k1_pay1 (F := Ideal) q s B2 (ix2 r c) : EReal) = (∑ k : Fin 10000, (q (ix2 r k) : EReal) * s (ix2 k c)) + B2 (ix2 0 c) := by
  unfold k1_pay1
  rw [shapeCast_self, shapeCast_self s]
  exact congrArg₂ (· + ·) (product_apply q s r c) (rowBias_apply _ _ B2 r c)

end Calls

/-! ## The calls' values against the reference's, at an entry of a block and the entry of the array it lies at -/

section Agree

variable (X : FVec Ideal S10000x128 .f32) (A : FVec Ideal S10000x10000 .f32) (W1 : FVec Ideal S128x128 .f32) (b1 : FVec Ideal S128 .f32)
  (W2 : FVec Ideal S128x40 .f32) (b2 : FVec Ideal S40 .f32)

theorem pay2_agree {v : FVec Ideal S512x10000 .f32} {B1 : FVec Ideal S1x128 .f32} (hB : ∀ c, B1 (ix2 0 c) = b1 (ix1 c)) {r : Fin 512} {r' : Fin 10000}
    (hv : ∀ k, v (ix2 r k) = A (ix2 r' k)) (c : Fin 128) : k0_pay2 (F := Ideal) v (refS1 X W1) B1 (ix2 r c) = refH X A W1 b1 (ix2 r' c) := by
  rw [pay2_apply, refH_apply, hB]
  simp only [hv]

theorem pay4_agree {v : FVec Ideal S512x10000 .f32} {B1 : FVec Ideal S1x128 .f32} (hB : ∀ c, B1 (ix2 0 c) = b1 (ix1 c)) {r : Fin 512} {r' : Fin 10000}
    (hv : ∀ k, v (ix2 r k) = A (ix2 r' k)) (c : Fin 40) :
    (k0_pay4 (F := Ideal) v (refS1 X W1) B1 W2 (ix2 r c) : EReal) = refS2 X A W1 b1 W2 (ix2 r' c) * ((6⁻¹ : ℝ) : EReal) := by
  rw [pay4_apply, refS2_apply]
  simp only [pay2_agree X A W1 b1 hB hv]

theorem pay1'_agree {q : FVec Ideal S1024x10000 .fp8e4m3} {s : FVec Ideal S10000x40 .fp8e4m3} {B2 : FVec Ideal S1x40 .f32} (hB : ∀ c, B2 (ix2 0 c) = b2 (ix1 c))
    {r : Fin 1024} {r' : Fin 10000} (hq : ∀ k, (q (ix2 r k) : EReal) = A (ix2 r' k) * ((6 : ℝ) : EReal))
    (hs : ∀ k c, (s (ix2 k c) : EReal) = refS2 X A W1 b1 W2 (ix2 k c) * ((6⁻¹ : ℝ) : EReal)) (c : Fin 40) :
    (k1_pay1 (F := Ideal) q s B2 (ix2 r c) : EReal) = refOut X A W1 b1 W2 b2 (ix2 r' c) := by
  rw [pay1'_apply, refOut_apply, hB]
  simp only [hq, hs, unscale]

end Agree

end Cert.KernelIdeal.Value

end
-- ==== Proof.KernelIdeal.Body.lean ====
/-
  The two kernel bodies as statements about the buffers they are handed: what each loads, and what it leaves in
  the buffers it stores to. Every access covers its whole buffer, so a load reads the buffer's contents and a
  store leaves its payload.
-/
module

public import Mathlib.Tactic.IntervalCases
public import proofs.«01_k».proof.Proof.Gen.KernelIdeal.Skeleton
public import Idealize.ShloMosaic.Lib.Pipeline.Kit
public import Idealize.ShloMosaic.Lib.Tactic
public import Idealize.ShloMosaic.Lib.VecWindow

@[expose] public section

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig Unit (Elt F) ℕ U ℕ

/-- The kernels' variants: none. -/
abbrev 𝒱₀ : Variants := Variants.none

/-- A buffer held at contents that read `X` is owned at `X`. -/
theorem owns_of_read (c : Thread nD τ) {sp : Space} {sh : Shape} {e : EltTy} (m : Memref sig c.2.kind sp sh e)
    (f : m.view.ty.Contents (Elt F)) (X : sh.Idx → Elt F e) (h : m.view.read (Elt F) f = X) :
    (m.view.loc c ↦[m.view.set]{fullShare} f : sProp 𝕄) ⊢ owns c m fullShare X := by
  unfold owns; iintro H; iexists f; isplitr
  · ipureintro; exact h
  · iexact H

/-- An owned buffer is held at some contents, and they read as it is owned. -/
theorem owns_open (c : Thread nD τ) {sp : Space} {sh : Shape} {e : EltTy} (m : Memref sig c.2.kind sp sh e) (X : sh.Idx → Elt F e) :
    (owns c m fullShare X : sProp 𝕄) ⊢ iprop(∃ f, ⌜m.view.read (Elt F) f = X⌝ ∗ (m.view.loc c ↦[m.view.set]{fullShare} f)) := .rfl

/-- A store of the whole buffer leaves its payload. -/
theorem read_store {κ : Kind} {sp : Space} {sh : Shape} {e : EltTy} (m : Memref sig κ sp sh e)
    (f : m.view.ty.Contents (Elt F)) {off : Fin sh.rank → ℕ} (inb : ∀ a, off a + sh.size a ≤ sh.size a) (w : sh.Idx → Elt F e) :
    m.view.read (Elt F) ((m.access (Rect.unit off sh.size inb) : View sig κ _ _ _).write (Elt F) f w Finset.univ) = w :=
  View.read_writes_full m.view f inb w []

variable (c : Dev nD) (E : Set ℕ)

set_option maxHeartbeats 1000000 in
/-- The first kernel's body at grid point `i`: its scratch, handed over holding anything at point 0 and the product
    `X1 X2` afterwards, is left at that product; the three result buffers are left at the payloads computed from the
    adjacency block `X5`, that product, and the bias and weight blocks. -/
theorem body0 (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x40 .f32) (harg4 : arg4.IsWhole)
    (arg5 : Memref sig .tc .vmem S512x10000 .f32) (harg5 : arg5.IsWhole) (arg6 : Memref sig .tc .vmem S512x128 .f32) (harg6 : arg6.IsWhole)
    (arg7 : Memref sig .tc .vmem S512x10000 .fp8e4m3) (harg7 : arg7.IsWhole) (arg8 : Memref sig .tc .vmem S512x40 .fp8e4m3) (harg8 : arg8.IsWhole)
    (arg9 : Memref sig .tc .vmem S10000x128 .f32) (harg9 : arg9.IsWhole)
    (X1 : Vec F S10000x128 .f32) (X2 : Vec F S128x128 .f32) (X3 : Vec F S1x128 .f32) (X4 : Vec F S128x40 .f32)
    (X5 : Vec F S512x10000 .f32) (X6 : Vec F S512x128 .f32) (X7 : Vec F S512x10000 .fp8e4m3) (X8 : Vec F S512x40 .fp8e4m3)
    (X9 : Vec F S10000x128 .f32) (hX9 : (i 0).val ≠ 0 → X9 = k0_pay1 X1 X2) (K : PUnit → sProp 𝕄) :
    iprop((owns (c : Thread nD τ) arg1 fullShare X1 ∗ owns (c : Thread nD τ) arg2 fullShare X2 ∗ owns (c : Thread nD τ) arg3 fullShare X3
            ∗ owns (c : Thread nD τ) arg4 fullShare X4 ∗ owns (c : Thread nD τ) arg5 fullShare X5 ∗ owns (c : Thread nD τ) arg6 fullShare X6
            ∗ owns (c : Thread nD τ) arg7 fullShare X7 ∗ owns (c : Thread nD τ) arg8 fullShare X8 ∗ owns (c : Thread nD τ) arg9 fullShare X9)
          ∗ (iprop(owns (c : Thread nD τ) arg1 fullShare X1 ∗ owns (c : Thread nD τ) arg2 fullShare X2 ∗ owns (c : Thread nD τ) arg3 fullShare X3
            ∗ owns (c : Thread nD τ) arg4 fullShare X4 ∗ owns (c : Thread nD τ) arg5 fullShare X5
            ∗ owns (c : Thread nD τ) arg6 fullShare (k0_pay2 X5 (k0_pay1 X1 X2) X3)
            ∗ owns (c : Thread nD τ) arg7 fullShare (k0_pay3 X5)
            ∗ owns (c : Thread nD τ) arg8 fullShare (k0_pay4 X5 (k0_pay1 X1 X2) X3 X4)
            ∗ owns (c : Thread nD τ) arg9 fullShare (k0_pay1 X1 X2)) -∗ K ⟨⟩))
      ⊢ wp frame (wpE (defs₀ (F := F)) 𝒱₀ c none) E
          (cc0__h_kernel i arg1 harg1 arg2 harg2 arg3 harg3 arg4 harg4 arg5 harg5 arg6 harg6 arg7 harg7 arg8 harg8 arg9 harg9) K := by
  have hc : (Scalar.cmpi .ne (Scalar.extui (Scalar.cmpi .eq (BitVec.ofNat 32 (i 0).val) 0#32) : BitVec 32) 0#32 = 1#1) ↔ (i 0).val = 0 := by
    have hi : (i 0).val < 20 := (i 0).isLt
    generalize (i 0).val = n at hi
    interval_cases n <;> decide
  simp only [cc0__h_kernel_eq_skeleton]
  unfold cc0__h_kernel_skel
  iintro ⟨⟨H1, H2, H3, H4, H5, H6, H7, H8, H9⟩, Hk⟩
  ihave H1 := (owns_open (c : Thread nD τ) arg1 X1) $$ H1
  icases H1 with ⟨%f1, %h1, H1⟩
  ihave H2 := (owns_open (c : Thread nD τ) arg2 X2) $$ H2
  icases H2 with ⟨%f2, %h2, H2⟩
  ihave H3 := (owns_open (c : Thread nD τ) arg3 X3) $$ H3
  icases H3 with ⟨%f3, %h3, H3⟩
  ihave H4 := (owns_open (c : Thread nD τ) arg4 X4) $$ H4
  icases H4 with ⟨%f4, %h4, H4⟩
  ihave H5 := (owns_open (c : Thread nD τ) arg5 X5) $$ H5
  icases H5 with ⟨%f5, %h5, H5⟩
  ihave H6 := (owns_open (c : Thread nD τ) arg6 X6) $$ H6
  icases H6 with ⟨%f6, %h6, H6⟩
  ihave H7 := (owns_open (c : Thread nD τ) arg7 X7) $$ H7
  icases H7 with ⟨%f7, %h7, H7⟩
  ihave H8 := (owns_open (c : Thread nD τ) arg8 X8) $$ H8
  icases H8 with ⟨%f8, %h8, H8⟩
  ihave H9 := (owns_open (c : Thread nD τ) arg9 X9) $$ H9
  icases H9 with ⟨%f9, %h9, H9⟩
  subst h1 h2 h3 h4 h5
  have r1 : arg1.view.readAt (Elt F) (Rect.unit (s := S10000x128) ![0, 0] S10000x128.size inb_S10000x128_S10000x128_0_0).toLoadRect f1 = _ := View.readAt_full _ _ _
  have r2 : arg2.view.readAt (Elt F) (Rect.unit (s := S128x128) ![0, 0] S128x128.size inb_S128x128_S128x128_0_0).toLoadRect f2 = _ := View.readAt_full _ _ _
  have r3 : arg3.view.readAt (Elt F) (Rect.unit (s := S1x128) ![0, 0] S1x128.size inb_S1x128_S1x128_0_0).toLoadRect f3 = _ := View.readAt_full _ _ _
  have r4 : arg4.view.readAt (Elt F) (Rect.unit (s := S128x40) ![0, 0] S128x40.size inb_S128x40_S128x40_0_0).toLoadRect f4 = _ := View.readAt_full _ _ _
  have r5 : arg5.view.readAt (Elt F) (Rect.unit (s := S512x10000) ![0, 0] S512x10000.size inb_S512x10000_S512x10000_0_0).toLoadRect f5 = _ := View.readAt_full _ _ _
  have r9 : ∀ f, arg9.view.readAt (Elt F) (Rect.unit (s := S10000x128) ![0, 0] S10000x128.size inb_S10000x128_S10000x128_0_0).toLoadRect f = arg9.view.read (Elt F) f :=
    fun f => View.readAt_full _ _ _
  have w9 : ∀ f w, arg9.view.read (Elt F) ((arg9.access (Rect.unit (s := S10000x128) ![0, 0] S10000x128.size inb_S10000x128_S10000x128_0_0) : View sig .tc _ _ _).write (Elt F) f w Finset.univ) = w :=
    fun f w => read_store arg9 f _ w
  by_cases h0 : (i 0).val = 0
  on_goal 1 =>
    simp only [dif_pos (hc.mpr h0), Prog.lift, Prog.bind_op, Prog.bind_ret]
    sl_steps
    rw [r1, r2, r3, r4, r5, r9, w9]
    have h9' := w9 f9 (k0_pay1 (arg1.view.read (Elt F) f1) (arg2.view.read (Elt F) f2))
  on_goal 2 =>
    simp only [dif_neg (mt hc.mp h0), Prog.lift, Prog.bind_op, Prog.bind_ret]
    sl_steps
    have h9' := h9.trans (hX9 h0)
    rw [r3, r4, r5, r9, h9']
  all_goals
    iapply Hk
    isplitl [H1]; · iapply (owns_of_read (c : Thread nD τ) arg1 _ _ rfl) $$ H1
    isplitl [H2]; · iapply (owns_of_read (c : Thread nD τ) arg2 _ _ rfl) $$ H2
    isplitl [H3]; · iapply (owns_of_read (c : Thread nD τ) arg3 _ _ rfl) $$ H3
    isplitl [H4]; · iapply (owns_of_read (c : Thread nD τ) arg4 _ _ rfl) $$ H4
    isplitl [H5]; · iapply (owns_of_read (c : Thread nD τ) arg5 _ _ rfl) $$ H5
    isplitl [H6]; · iapply (owns_of_read (c : Thread nD τ) arg6 _ _ (read_store arg6 _ _ _)) $$ H6
    isplitl [H7]; · iapply (owns_of_read (c : Thread nD τ) arg7 _ _ (read_store arg7 _ _ _)) $$ H7
    isplitl [H8]; · iapply (owns_of_read (c : Thread nD τ) arg8 _ _ (read_store arg8 _ _ _)) $$ H8
    iapply (owns_of_read (c : Thread nD τ) arg9 _ _ h9') $$ H9

/-- The second kernel's body: its result buffer is left at the payload computed from the scaled adjacency block `X3`,
    the scaled features `X1` and the bias `X2`. -/
theorem body1 (i : grid1.Coords)
    (arg1 : Memref sig .tc .vmem S10000x40 .fp8e4m3) (harg1 : arg1.IsWhole) (arg2 : Memref sig .tc .vmem S1x40 .f32) (harg2 : arg2.IsWhole)
    (arg3 : Memref sig .tc .vmem S1024x10000 .fp8e4m3) (harg3 : arg3.IsWhole) (arg4 : Memref sig .tc .vmem S1024x40 .f32) (harg4 : arg4.IsWhole)
    (X1 : Vec F S10000x40 .fp8e4m3) (X2 : Vec F S1x40 .f32) (X3 : Vec F S1024x10000 .fp8e4m3) (X4 : Vec F S1024x40 .f32)
    (K : PUnit → sProp 𝕄) :
    iprop((owns (c : Thread nD τ) arg1 fullShare X1 ∗ owns (c : Thread nD τ) arg2 fullShare X2 ∗ owns (c : Thread nD τ) arg3 fullShare X3
            ∗ owns (c : Thread nD τ) arg4 fullShare X4)
          ∗ (iprop(owns (c : Thread nD τ) arg1 fullShare X1 ∗ owns (c : Thread nD τ) arg2 fullShare X2 ∗ owns (c : Thread nD τ) arg3 fullShare X3
            ∗ owns (c : Thread nD τ) arg4 fullShare (k1_pay1 X3 X1 X2)) -∗ K ⟨⟩))
      ⊢ wp frame (wpE (defs₀ (F := F)) 𝒱₀ c none) E (cc1__out_kernel i arg1 harg1 arg2 harg2 arg3 harg3 arg4 harg4) K := by
  simp only [cc1__out_kernel_eq_skeleton]
  unfold cc1__out_kernel_skel
  iintro ⟨⟨H1, H2, H3, H4⟩, Hk⟩
  ihave H1 := (owns_open (c : Thread nD τ) arg1 X1) $$ H1
  icases H1 with ⟨%f1, %h1, H1⟩
  ihave H2 := (owns_open (c : Thread nD τ) arg2 X2) $$ H2
  icases H2 with ⟨%f2, %h2, H2⟩
  ihave H3 := (owns_open (c : Thread nD τ) arg3 X3) $$ H3
  icases H3 with ⟨%f3, %h3, H3⟩
  ihave H4 := (owns_open (c : Thread nD τ) arg4 X4) $$ H4
  icases H4 with ⟨%f4, %h4, H4⟩
  subst h1 h2 h3
  have r1 : arg1.view.readAt (Elt F) (Rect.unit (s := S10000x40) ![0, 0] S10000x40.size inb_S10000x40_S10000x40_0_0).toLoadRect f1 = _ := View.readAt_full _ _ _
  have r2 : arg2.view.readAt (Elt F) (Rect.unit (s := S1x40) ![0, 0] S1x40.size inb_S1x40_S1x40_0_0).toLoadRect f2 = _ := View.readAt_full _ _ _
  have r3 : arg3.view.readAt (Elt F) (Rect.unit (s := S1024x10000) ![0, 0] S1024x10000.size inb_S1024x10000_S1024x10000_0_0).toLoadRect f3 = _ := View.readAt_full _ _ _
  simp only [Prog.lift, Prog.bind_op, Prog.bind_ret]
  sl_steps
  rw [r1, r2, r3]
  iapply Hk
  isplitl [H1]; · iapply (owns_of_read (c : Thread nD τ) arg1 _ _ rfl) $$ H1
  isplitl [H2]; · iapply (owns_of_read (c : Thread nD τ) arg2 _ _ rfl) $$ H2
  isplitl [H3]; · iapply (owns_of_read (c : Thread nD τ) arg3 _ _ rfl) $$ H3
  iapply (owns_of_read (c : Thread nD τ) arg4 _ _ (read_store arg4 _ _ _)) $$ H4

end Cert.KernelIdeal.Run

end
-- ==== Proof.KernelIdeal.Dats.lean ====
/-
  The proof data of the two kernel calls, at any contents the arrays have when a call starts: what each call's input
  buffers hold at a grid point, and what it leaves in its result buffers.

  The last block of each row-blocked array reaches past the array's end, and the buffer rows past it hold values
  nothing determines. A matrix product over float words may depend on them, so the result buffers are described by a
  relation: each holds the payload computed from the block inside the array and from some values past its end.
-/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.DatRel

@[expose] public section

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F] [∀ e, Nonempty (Elt F e)]
variable {U : Type} [URA U]

local notation "𝕄" => MT nD τ sig Unit (Elt F) ℕ U ℕ

/-! ## The first call -/

section First

variable (V : Valuation τ sig (Elt F)) (c : Dev nD)

/-- The part of window `w`'s block at point `t` that lies inside its array. -/
def blk0 (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The four operands the call keeps whole. -/
def opX : Vec F S10000x128 .f32 := blk0 V 0 ⟨0, by decide⟩
def opW1 : Vec F S128x128 .f32 := blk0 V 1 ⟨0, by decide⟩
def opB1 : Vec F S1x128 .f32 := blk0 V 2 ⟨0, by decide⟩
def opW2 : Vec F S128x40 .f32 := blk0 V 3 ⟨0, by decide⟩
/-- The product the call computes at its first point and keeps. -/
def opS1 : Vec F S10000x128 .f32 := k0_pay1 (opX V) (opW1 V)
/-- The adjacency block at point `t`, `d` past the array's end. -/
def opAdj (t : Fin cfg0.N) (d : Vec F S512x10000 .f32) : Vec F S512x10000 .f32 :=
  win0_4.fill (grid0.coords t) d (blk0 V 4 t)

/-- The result windows, the ones described by a relation. -/
def fgt0 : Fin cfg0.W → Bool := fun | 5 => true | 6 => true | 7 => true | _ => false

/-- What a result buffer holds after the body at point `t`. -/
def Rl0 : (w : Fin cfg0.W) → Fin cfg0.N → ((cfg0.win w).block.Idx → Elt F (cfg0.win w).elt) → Prop
  | 5, t, X => ∃ d, X = k0_pay2 (opAdj V t d) (opS1 V) (opB1 V)
  | 6, t, X => ∃ d, X = k0_pay3 (opAdj V t d)
  | 7, t, X => ∃ d, X = k0_pay4 (opAdj V t d) (opS1 V) (opB1 V) (opW2 V)
  | _, _, _ => True

/-- The buffers the second call scopes, untouched by the first. -/
def rest0 : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the call keeps between points: its scratch, from the second point on at the product. -/
def inv0 (t : Fin (cfg0.N + 1)) : sProp 𝕄 :=
  iprop((∃ X, ⌜t.val ≠ 0 → X = opS1 V⌝ ∗ owns (c : Thread nD τ) (Memref.whole cc0_scratch0) fullShare X) ∗ rest0 c)

/-- The first call's proof data. -/
def dat0 : Dat τ (Elt F) Unit ℕ U ℕ cfg0 c where
  A w := V (Proc.devRef .tc (Pipeline.arrRef spec0 w))
  after w t := match w with
    | 0 => opX V
    | 1 => opW1 V
    | 2 => opB1 V
    | 3 => opW2 V
    | 4 => opAdj V t fun _ => Classical.arbitrary _
    | 5 => fun _ => Classical.arbitrary _
    | 6 => fun _ => Classical.arbitrary _
    | 7 => fun _ => Classical.arbitrary _
  Φ := inv0 V c
  q _ := fullShare
  owed _ := 0

theorem before0_whole (w : Fin cfg0.W) (h : (cfg0.win w).isOut = false)
    (hc : ∀ i a, (cfg0.win w).clip i a = none)
    (hk : ∀ t, (cfg0.win w).cut (cfg0.grid.coords t) ((dat0 (U := U) V c).after w t) = (dat0 (U := U) V c).blockOf w t)
    (t : Fin cfg0.N) (d) : (dat0 (U := U) V c).before w t d = (dat0 (U := U) V c).fetched w t d :=
  (dat0 V c).before_in_eq_fetched w h (fun _ => rfl) (fun _ _ _ => by funext a; rw [hc, hc]) hk t d

theorem before0_0 (t : Fin cfg0.N) (d) : (dat0 (U := U) V c).before 0 t d = opX V :=
  before0_whole V c 0 rfl (fun _ _ => rfl) (fun _ => rfl) t d
theorem before0_1 (t : Fin cfg0.N) (d) : (dat0 (U := U) V c).before 1 t d = opW1 V :=
  before0_whole V c 1 rfl (fun _ _ => rfl) (fun _ => rfl) t d
theorem before0_2 (t : Fin cfg0.N) (d) : (dat0 (U := U) V c).before 2 t d = opB1 V :=
  before0_whole V c 2 rfl (fun _ _ => rfl) (fun _ => rfl) t d
theorem before0_3 (t : Fin cfg0.N) (d) : (dat0 (U := U) V c).before 3 t d = opW2 V :=
  before0_whole V c 3 rfl (fun _ _ => rfl) (fun _ => rfl) t d
theorem before0_4 (t : Fin cfg0.N) (d) : (dat0 (U := U) V c).before 4 t d = opAdj V t d := by
  unfold Dat.before; rw [if_pos (fetch0_4 t)]; rfl

theorem coord0_ne (t : Fin cfg0.N) (h : ((grid0.coords t) 0).val ≠ 0) : t.val ≠ 0 := by
  intro h0
  obtain rfl : t = ⟨0, by decide⟩ := Fin.ext h0
  exact h (by decide)

set_option maxHeartbeats 1000000 in
/-- The first call's body at every point. -/
theorem hbody0 : BodyObligationRel (dat0 (U := U) V c) (defs₀ (F := F)) 𝒱₀ () Set.univ fgt0 (Rl0 V) := fun t => by
  rw [bigSep_W0, bigSep_W0]
  simp only [fgt0]
  rw [show (dat0 (U := U) V c).Φ t.castSucc = inv0 V c t.castSucc from rfl, show (dat0 (U := U) V c).Φ t.succ = inv0 V c t.succ from rfl,
    show (dat0 (U := U) V c).owesAt () t.succ = (dat0 (U := U) V c).owesAt () t.castSucc from rfl]
  unfold inv0
  iintro ⟨⟨⟨%X9, %hX9, H9⟩, Hr⟩, Ho, ⟨%d0, H0⟩, ⟨%d1, H1⟩, ⟨%d2, H2⟩, ⟨%d3, H3⟩, ⟨%d4, H4⟩, ⟨%X5, %hX5, H5⟩, ⟨%X6, %hX6, H6⟩, ⟨%X7, %hX7, H7⟩⟩
  rw [before0_0, before0_1, before0_2, before0_3, before0_4]
  iapply (body0 c Set.univ (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    (Memref.whole cc0_scratch0) (Memref.isWhole_whole _) (opX V) (opW1 V) (opB1 V) (opW2 V) (opAdj V t d4) X5 X6 X7 X9
    (fun h => hX9 (coord0_ne t h)))
  isplitl [H0 H1 H2 H3 H4 H5 H6 H7 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H9
  iintro ⟨H0, H1, H2, H3, H4, H5, H6, H7, H9⟩
  isplitl [H9 Hr]
  · isplitl [H9]
    · iexists (opS1 V); isplitr
      · ipureintro; exact fun _ => rfl
      · iexact H9
    · iexact Hr
  isplitl [Ho]; · iexact Ho
  isplitl [H0]; · iexact H0
  isplitl [H1]; · iexact H1
  isplitl [H2]; · iexact H2
  isplitl [H3]; · iexact H3
  isplitl [H4]
  · iexists d4
    rw [show (cfg0.win 4).fill (cfg0.grid.coords t) d4 ((cfg0.win 4).cut (cfg0.grid.coords t) ((dat0 (U := U) V c).after 4 t)) = opAdj V t d4 from
      congrArg (win0_4.fill (grid0.coords t) d4) (win0_4.cut_fill (grid0.coords t) _ _)]
    iexact H4
  isplitl [H5]
  · iexists (k0_pay2 (opAdj V t d4) (opS1 V) (opB1 V)); isplitr
    · ipureintro; exact ⟨d4, rfl⟩
    · iexact H5
  isplitl [H6]
  · iexists (k0_pay3 (opAdj V t d4)); isplitr
    · ipureintro; exact ⟨d4, rfl⟩
    · iexact H6
  · iexists (k0_pay4 (opAdj V t d4) (opS1 V) (opB1 V) (opW2 V)); isplitr
    · ipureintro; exact ⟨d4, rfl⟩
    · iexact H7

end First

/-! ## The second call -/

section Second

variable (V : Valuation τ sig (Elt F)) (c : Dev nD)

/-- The part of window `w`'s block at point `t` that lies inside its array. -/
def blk1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The two operands the call keeps whole. -/
def opS2 : Vec F S10000x40 .fp8e4m3 := blk1 V 0 ⟨0, by decide⟩
def opB2 : Vec F S1x40 .f32 := blk1 V 1 ⟨0, by decide⟩
/-- The scaled adjacency block at point `t`, `d` past the array's end. -/
def opQ (t : Fin cfg1.N) (d : Vec F S1024x10000 .fp8e4m3) : Vec F S1024x10000 .fp8e4m3 :=
  win1_2.fill (grid1.coords t) d (blk1 V 2 t)

/-- The result window, the one described by a relation. -/
def fgt1 : Fin cfg1.W → Bool := fun | 3 => true | _ => false

/-- What the result buffer holds after the body at point `t`. -/
def Rl1 : (w : Fin cfg1.W) → Fin cfg1.N → ((cfg1.win w).block.Idx → Elt F (cfg1.win w).elt) → Prop
  | 3, t, X => ∃ d, X = k1_pay1 (opQ V t d) (opS2 V) (opB2 V)
  | _, _, _ => True

/-- The second call's proof data: between points it keeps nothing but the buffers the first call scopes. -/
def dat1 : Dat τ (Elt F) Unit ℕ U ℕ cfg1 c where
  A w := V (Proc.devRef .tc (Pipeline.arrRef spec1 w))
  after w t := match w with
    | 0 => opS2 V
    | 1 => opB2 V
    | 2 => opQ V t fun _ => Classical.arbitrary _
    | 3 => fun _ => Classical.arbitrary _
  Φ _ := Pipeline.scopedRest spec1 c
  q _ := fullShare
  owed _ := 0

theorem before1_0 (t : Fin cfg1.N) (d) : (dat1 (U := U) V c).before 0 t d = opS2 V :=
  (dat1 V c).before_in_eq_fetched 0 rfl (fun _ => rfl) (fun _ _ _ => rfl) (fun _ => rfl) t d
theorem before1_1 (t : Fin cfg1.N) (d) : (dat1 (U := U) V c).before 1 t d = opB2 V :=
  (dat1 V c).before_in_eq_fetched 1 rfl (fun _ => rfl) (fun _ _ _ => rfl) (fun _ => rfl) t d
theorem before1_2 (t : Fin cfg1.N) (d) : (dat1 (U := U) V c).before 2 t d = opQ V t d := by
  unfold Dat.before; rw [if_pos (fetch1_2 t)]; rfl

set_option maxHeartbeats 1000000 in
/-- The second call's body at every point. -/
theorem hbody1 : BodyObligationRel (dat1 (U := U) V c) (defs₀ (F := F)) 𝒱₀ () Set.univ fgt1 (Rl1 V) := fun t => by
  rw [bigSep_W1, bigSep_W1]
  simp only [fgt1]
  rw [show (dat1 (U := U) V c).Φ t.succ = (dat1 (U := U) V c).Φ t.castSucc from rfl,
    show (dat1 (U := U) V c).owesAt () t.succ = (dat1 (U := U) V c).owesAt () t.castSucc from rfl]
  iintro ⟨Hr, Ho, ⟨%d0, H0⟩, ⟨%d1, H1⟩, ⟨%d2, H2⟩, ⟨%X3, %hX3, H3⟩⟩
  rw [before1_0, before1_1, before1_2]
  iapply (body1 c Set.univ (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (opS2 V) (opB2 V) (opQ V t d2) X3)
  isplitl [H0 H1 H2 H3]
  · isplitl [H0]; · iexact H0
    isplitl [H1]; · iexact H1
    isplitl [H2]; · iexact H2
    iexact H3
  iintro ⟨H0, H1, H2, H3⟩
  isplitl [Hr]; · iexact Hr
  isplitl [Ho]; · iexact Ho
  isplitl [H0]; · iexact H0
  isplitl [H1]; · iexact H1
  isplitl [H2]
  · iexists d2
    rw [show (cfg1.win 2).fill (cfg1.grid.coords t) d2 ((cfg1.win 2).cut (cfg1.grid.coords t) ((dat1 (U := U) V c).after 2 t)) = opQ V t d2 from
      congrArg (win1_2.fill (grid1.coords t) d2) (win1_2.cut_fill (grid1.coords t) _ _)]
    iexact H2
  · iexists (k1_pay1 (opQ V t d2) (opS2 V) (opB2 V)); isplitr
    · ipureintro; exact ⟨d2, rfl⟩
    · iexact H3

end Second

end Cert.KernelIdeal.Run

end
-- ==== Proof.KernelIdeal.Records.lean ====
/-
  The two kernel calls as segments of the program: each is entered from the device's buffers at any contents `V`, and
  left with the arrays of its windows at contents the call's proof data allow and every other buffer at `V`.
-/
module

public import proofs.«01_k».proof.Proof.KernelIdeal.Dats
public import proofs.«01_k».proof.Proof.Gen.KernelIdeal.Regions
public import Idealize.ShloMosaic.Lib.Pipeline.RegionsForgetR
public import Idealize.ShloMosaic.Lib.Pipeline.RegionsLoop
public import Idealize.ShloMosaic.Lib.HostLoop.Lifted

@[expose] public section

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel pin ucRefs)

variable {F : FTy → Type} [FloatOps F] [Named F] [∀ e, Nonempty (Elt F e)]

/-- The proof's resource algebra: a copy of the pipeline library's for each of the two calls. -/
abbrev UU : Type := IProdConst (Fin 2) (UR sig nD τ) × Counters

local notation "𝕄" => MT nD τ sig Unit (Elt F) ℕ UU ℕ

/-- A family of values at distinct places extends a given family that it overrides there. -/
theorem exists_override {I B : Type} {T : B → Type} (f : I → B) (hf : Function.Injective f) (V : (b : B) → T b) (A : (i : I) → T (f i)) :
    ∃ V' : (b : B) → T b, (∀ i, A i = V' (f i)) ∧ ∀ b, (∀ i, f i ≠ b) → V' b = V b := by
  classical
  refine ⟨fun b => if h : ∃ i, f i = b then h.choose_spec ▸ A h.choose else V b, fun i => ?_, fun b hb => ?_⟩
  · have h : ∃ j, f j = f i := ⟨i, rfl⟩
    beta_reduce
    rw [dif_pos h]
    have key : ∀ (j : I) (e : f j = f i), A i = e ▸ A j := by
      intro j e
      obtain rfl := hf e
      rfl
    exact key h.choose h.choose_spec
  · beta_reduce
    rw [dif_neg (not_exists.mpr hb)]

/-- Both calls' proof data at contents `V`. -/
def pdats (V : Valuation τ sig (Elt F)) : (q : Fin 2) → (c : Dev nD) → Dat τ (Elt F) Unit ℕ UU ℕ (pin (pcfgs (F := F)) adm q) c
  | ⟨0, _⟩ => fun c => dat0 V c
  | ⟨1, _⟩ => fun c => dat1 V c
  | ⟨_ + 2, h⟩ => absurd h (Nat.not_lt.2 (Nat.le_add_left _ _))

/-- The windows each call describes by a relation. -/
def fgt : (q : Fin 2) → Fin (pin (pcfgs (F := F)) adm q).W → Bool
  | ⟨0, _⟩ => fgt0
  | ⟨1, _⟩ => fgt1
  | ⟨_ + 2, h⟩ => absurd h (Nat.not_lt.2 (Nat.le_add_left _ _))

/-- Those relations. -/
def Rl (V : Valuation τ sig (Elt F)) : (q : Fin 2) → (w : Fin (pin (pcfgs (F := F)) adm q).W) → Fin (pin (pcfgs (F := F)) adm q).N →
    (((pin (pcfgs (F := F)) adm q).win w).block.Idx → Elt F ((pin (pcfgs (F := F)) adm q).win w).elt) → Prop
  | ⟨0, _⟩ => Rl0 V
  | ⟨1, _⟩ => Rl1 V
  | ⟨_ + 2, h⟩ => absurd h (Nat.not_lt.2 (Nat.le_add_left _ _))

/-- The proof data read relationally. -/
def rdats (V : Valuation τ sig (Elt F)) (q : Fin 2) (c : Dev nD) : RDat τ (Elt F) Unit ℕ UU ℕ (pin (pcfgs (F := F)) adm q) c :=
  (pdats V q c).toRRel (fgt q) (Rl V q)

/-- No levels: no core owes another anything. -/
abbrev L : GSem nD τ sig → Finset Unit := fun _ => ∅
abbrev lv : GSem nD τ sig → Unit → ℕ := fun _ _ => 0

/-- The state between two items: every unscoped buffer at `V`, and the core owing nothing. -/
def stt (c : Dev nD) (V : Valuation τ sig (Elt F)) : sProp 𝕄 :=
  iprop(StableHlo.held (c.tc : Thread nD τ) (ucRefs τ sig) V ∗ ∃ W, owes (c.tc : Thread nD τ) (0 : CellTallies nD τ sig Unit) W)

/-- What a call makes of the contents `V`: the arrays of its windows at contents its proof data allow, the rest as it was. -/
def Step (q : Fin 2) (c : Dev nD) (V V' : Valuation τ sig (Elt F)) : Prop :=
  (∀ w, (rdats V q c).ArrAt w (pin (pcfgs (F := F)) adm q).N (V' (Proc.devRef .tc (Pipeline.arrRef (pin (pcfgs (F := F)) adm q).spec w))))
    ∧ ∀ b : Ref sig .tc, b ∉ Finset.univ.image (Pipeline.arrRef (pin (pcfgs (F := F)) adm q).spec) → V' b = V b

/-- The arrays after a call, at some contents its proof data allow. -/
theorem arraysAt_open (q : Fin 2) (c : Dev nD) (V : Valuation τ sig (Elt F)) (n : ℕ) :
    ((rdats V q c).arraysAt n : sProp 𝕄)
      ⊢ iprop(∃ A : (w : Fin (pin (pcfgs (F := F)) adm q).W) → Buf (Elt F) (((pin (pcfgs (F := F)) adm q).win w).arr.view.loc (c.tc : Thread nD τ)),
          ⌜∀ w, (rdats V q c).ArrAt w n (A w)⌝ ∗ (pdats V q c).arrays A) := by
  unfold RDat.arraysAt Dat.arrays
  refine (BI.bigSep_exists_pi Finset.univ _).trans ?_
  iintro ⟨%A, H⟩
  ihave H' := (BI.bigSep_pure_sep Finset.univ (fun w => (rdats V q c).ArrAt w n (A w)) _) $$ H
  icases H' with ⟨%hA, H⟩
  iexists A
  isplitr
  · ipureintro; exact fun w => hA w (Finset.mem_univ w)
  iexact H

/-- A call's record: from the state at `V` to the state at some contents it makes of `V`. -/
def seg (q : Fin 2) (V : Valuation τ sig (Elt F)) (kit : Pipeline.LaunchFacts (nD := nD) (τ := τ) cfgs q)
    (hbody : ∀ c, BodyObligationRel (pdats V q c) (defs₀ (F := F)) 𝒱₀ () Set.univ (fgt (F := F) q) (Rl V q))
    (hA : ∀ c w, (pdats V q c).A w = V (Proc.devRef .tc (Pipeline.arrRef (pin (pcfgs (F := F)) adm q).spec w)))
    (hq : ∀ c w, (pdats V q c).q w = fullShare) (ho : ∀ c t, (pdats V q c).owed t = 0) (hr : ∀ c, (pdats V q c).recorded 0 = Set.univ)
    (hin : ∀ c, (Pipeline.scopedRest (pin (pcfgs (F := F)) adm q).spec c : sProp 𝕄) ⊢ (pdats V q c).Φ 0)
    (hout : ∀ c, (pdats V q c).Φ (Fin.last _) ⊢ (Pipeline.scopedRest (pin (pcfgs (F := F)) adm q).spec c : sProp 𝕄)) :
    RDat.RegionSeg (pcfgs (F := F)) adm (rdats V) () (defs₀ (F := F)) 𝒱₀ L lv q where
  win := kit.win.to₀
  block_pos := kit.block_pos
  stage_whole := kit.stage_whole
  K := PEmpty
  osem k := k.elim
  ho := Pipeline.OwnSemFacts.none _
  hbody c := (hbody c).toRRel
  hwaits c := by
    iintro -
    iapply (RDat.cellsWaits_of_owed_zero (pin (pcfgs (F := F)) adm) (rdats V) () q c (ho c))
    iempintro
  pre c := stt c V
  post c := iprop(∃ V', ⌜Step q c V V'⌝ ∗ stt c V')
  X _ := BI.emp
  Y _ := BI.emp
  Z c := Pipeline.unscopedRest (Ix := Unit) (Name := ℕ) (U := UU) (Lvl := ℕ) (pin (pcfgs (F := F)) adm q).spec c (fun b => V b)
  hentry c := by
    show _ ⊢ |={Set.univ}=> iprop((pdats V q c).arrays ((pdats V q c).arrAt · 0) ∗ Pipeline.prefHeld (pcfgs (F := F) q).pre c (fun _ => fullShare) (adm (F := F) q).1
        ∗ (pdats V q c).owesAt () 0 ∗ _ ∗ _)
    rw [Pipeline.ownSems0_none]
    have hsplit := Pipeline.arrays_of_unscopedBufs (p := q) (pcfgs (F := F)) adm (pdats V) kit.win kit.arr_whole c
      ((pdats V q c).share_full (hq c)) (fun b => V b) (hA c)
    unfold stt
    rw [← Pipeline.unscopedBufs_held c V]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho c 0, hr c]
      icases HO with ⟨%W, HO⟩; iexists W; isplitr; · ipureintro; exact fun _ _ => Or.inl trivial
      iexact HO
    isplitr; · iempintro
    iexact Hrest
  hin c := by
    refine .trans ?_ (hin c)
    iintro ⟨-, -, Hr⟩; iexact Hr
  hout c := by
    rw [Pipeline.ownSems0_none]
    refine (hout c).trans ?_
    iintro Hr
    isplitr; · iempintro
    isplitr; · iempintro
    iexact Hr
  hexit c := by
    show iprop((rdats V q c).arraysAt (pin (pcfgs (F := F)) adm q).N ∗ (pdats V q c).owesAt () (Fin.last (pin (pcfgs (F := F)) adm q).N) ∗ _ ∗ _) ⊢ _
    iintro ⟨Ha, HO, -, Hrest⟩
    ihave Ha := (arraysAt_open q c V _) $$ Ha
    icases Ha with ⟨%A, %hArr, Ha⟩
    obtain ⟨V', hV', hrest⟩ := exists_override (T := fun b => b.ty.Contents (Elt F))
      (fun w => (Proc.devRef .tc (Pipeline.arrRef (pin (pcfgs (F := F)) adm q).spec w) : DevRef τ sig))
      (fun w w' h => kit.win.arr_inj (Proc.devRef_injective _ h)) V A
    have hrest' : ∀ b : Ref sig .tc, b ∉ Finset.univ.image (Pipeline.arrRef (pin (pcfgs (F := F)) adm q).spec) → V' b = V b :=
      fun b hb => hrest _ fun w h => hb (Finset.mem_image.mpr ⟨w, Finset.mem_univ _, Proc.devRef_injective _ h⟩)
    have hjoin := Pipeline.unscopedBufs_of_arrays (p := q) (pcfgs (F := F)) adm (Ix := Unit) (Name := ℕ) (U := UU) (Lvl := ℕ) kit.win kit.arr_whole c
      (pdats V) ((pdats V q c).share_full (hq c)) (fun b => V b) (fun b => V' b) A hV' hrest'
    imodintro
    iexists V'
    isplitr
    · ipureintro
      exact ⟨fun w => hV' w ▸ hArr w, hrest'⟩
    unfold stt
    rw [← Pipeline.unscopedBufs_held c V']
    isplitl [Ha Hrest]
    · iapply hjoin; isplitl [Ha] <;> iassumption
    unfold Pipeline.Dat.owesAt Pipeline.owesWithin
    rw [ho c (Fin.last _)]
    icases HO with ⟨%W, -, HO⟩; iexists W; iexact HO

/-- The first call's record. -/
def seg0 (V : Valuation τ sig (Elt F)) : RDat.RegionSeg (pcfgs (F := F)) adm (rdats V) () (defs₀ (F := F)) 𝒱₀ L lv 0 :=
  seg 0 V launch0 (fun c => hbody0 V c) (fun _ _ => rfl) (fun _ _ => rfl) (fun _ _ => rfl) (fun _ => rfl)
    (fun c => by
      show (Pipeline.scopedRest spec0 c : sProp 𝕄) ⊢ inv0 V c 0
      rw [scopedRest0_eq]
      unfold inv0 rest0
      iintro ⟨⟨%f, H⟩, Hr⟩
      isplitl [H]
      · iexists f; isplitr
        · ipureintro; exact fun h => absurd rfl h
        · rw [owns_whole]; iexact H
      · iexact Hr)
    (fun c => by
      show inv0 V c (Fin.last _) ⊢ (Pipeline.scopedRest spec0 c : sProp 𝕄)
      rw [scopedRest0_eq]
      unfold inv0 rest0
      iintro ⟨⟨%X, -, H⟩, Hr⟩
      isplitl [H]
      · ihave H := (Entails.of_eq (owns_whole (c : Thread nD τ) cc0_scratch0 fullShare X)) $$ H
        iexists X; iexact H
      · iexact Hr)

/-- The second call's record. -/
def seg1 (V : Valuation τ sig (Elt F)) : RDat.RegionSeg (pcfgs (F := F)) adm (rdats V) () (defs₀ (F := F)) 𝒱₀ L lv 1 :=
  seg 1 V launch1 (fun c => hbody1 V c) (fun _ _ => rfl) (fun _ _ => rfl) (fun _ _ => rfl) (fun _ => rfl)
    (fun c => by show (Pipeline.scopedRest spec1 c : sProp 𝕄) ⊢ Pipeline.scopedRest spec1 c; exact .rfl)
    (fun c => by show (Pipeline.scopedRest spec1 c : sProp 𝕄) ⊢ Pipeline.scopedRest spec1 c; exact .rfl)

end Cert.KernelIdeal.Run

end
-- ==== Proof.KernelIdeal.Run.lean ====
/-
  The run of @main: host reshape, first call, host reshape, second call. Every run ends with each buffer that outlives the calls at
  contents the two calls' proof data allow, the second call's proof data being those of the contents the first one left.
-/
module

public import proofs.«01_k».proof.Proof.KernelIdeal.Records

@[expose] public section

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel pin ucRefs Ticket CSeg)
open scoped Idealize.SL.RA.PCS

variable {F : FTy → Type} [FloatOps F] [Named F] [∀ e, Nonempty (Elt F e)]

local notation "𝕄" => MT nD τ sig Unit (Elt F) ℕ UU ℕ

variable (m : (ℓ : Loc nD τ sig) → Buf (Elt F) ℓ)

/-- No host loop. -/
abbrev loops : Fin 0 → Prog (TpuEff nD τ sig (Elt F) (HostLoop.Sig (Pipeline.Sig Λ₀ (Fin 2) fun p => (pcfgs (F := F) p).Adm) 0) .tc) PUnit := fun l => l.elim0

/-- One ticket per call. -/
def tk (j : Fin 2) : Ticket (Ix := Unit) (Name := ℕ) (U := UU) (Lvl := ℕ) (nD := nD) (τ := τ) (pcfgs (F := F)) adm where
  p := j
  pdats := pdats (V0 m 0)
  EP := embAt j

/-- What holds of the two contents `V2`, `V4` after the first and the second call. -/
def Out (c : Dev nD) (V2 V4 : Valuation τ sig (Elt F)) : Prop :=
  Step 0 c (V1 m c) V2 ∧ Step 1 c (StableHlo.after hostOps1 V2) V4

abbrev Rw (c : Dev nD) : sProp 𝕄 := iprop(∃ W, owes (c.tc : Thread nD τ) (0 : CellTallies nD τ sig Unit) W)

abbrev hostSeg (ops : List (HloOp τ sig (Elt F))) (hS : ∀ op ∈ ops, op.bufs ⊆ ucRefs τ sig) (hf : ∀ op ∈ ops, op.fresh = ∅) (V : Dev nD → Valuation τ sig (Elt F)) :
    CSeg (pcfgs (F := F)) adm (defs₀ (F := F)) 𝒱₀ L lv loops (tk m) :=
  CSeg.ofOps _ _ _ _ _ _ _ _ (ucRefs τ sig) ops hS hf V Rw

theorem hostOps0_sub' : ∀ op ∈ hostOps0 (F := F), op.bufs ⊆ ucRefs τ sig := fun op h => Pipeline.sub_ucRefs op ((List.forall_iff_forall_mem.mp hostOps0_sub) op h)
theorem hostOps1_sub' : ∀ op ∈ hostOps1 (F := F), op.bufs ⊆ ucRefs τ sig := fun op h => Pipeline.sub_ucRefs op ((List.forall_iff_forall_mem.mp hostOps1_sub) op h)
theorem hostOps0_fresh' : ∀ op ∈ hostOps0 (F := F), op.fresh = ∅ := fun op h => (List.forall_iff_forall_mem.mp hostOps0_fresh) op h
theorem hostOps1_fresh' : ∀ op ∈ hostOps1 (F := F), op.fresh = ∅ := fun op h => (List.forall_iff_forall_mem.mp hostOps1_fresh) op h

def sg0 : CSeg (pcfgs (F := F)) adm (defs₀ (F := F)) 𝒱₀ L lv loops (tk m) := hostSeg m hostOps0 hostOps0_sub' hostOps0_fresh' (V0 m)
def sg1 : CSeg (pcfgs (F := F)) adm (defs₀ (F := F)) 𝒱₀ L lv loops (tk m) :=
  CSeg.regionFR (pcfgs (F := F)) adm () cellOf_inj (defs₀ (F := F)) 𝒱₀ L lv loops (tk m) 0 (X := Valuation τ sig (Elt F)) rdats seg0 (fun V c => V = V1 m c)
def sg2 : CSeg (pcfgs (F := F)) adm (defs₀ (F := F)) 𝒱₀ L lv loops (tk m) :=
  CSeg.exSel (O := Valuation τ sig (Elt F)) (fun V c => Step 0 c (V1 m c) V)
    (fun V => hostSeg m hostOps1 hostOps1_sub' hostOps1_fresh' fun _ => V) (StableHlo.seq hostOps1) (fun _ => rfl) 0 (fun _ => le_rfl) ∅ (fun _ => rfl)
def sg3 : CSeg (pcfgs (F := F)) adm (defs₀ (F := F)) 𝒱₀ L lv loops (tk m) :=
  CSeg.regionFR (pcfgs (F := F)) adm () cellOf_inj (defs₀ (F := F)) 𝒱₀ L lv loops (tk m) 1 (X := Valuation τ sig (Elt F)) rdats seg1
    (fun V c => ∃ V2, Step 0 c (V1 m c) V2 ∧ V = StableHlo.after hostOps1 V2)

def T₀ (c : Dev nD) : sProp 𝕄 := stt c (V0 m c)
def Tₙ (c : Dev nD) : sProp 𝕄 := iprop(∃ V4, ⌜∃ V2, Out m c V2 V4⌝ ∗ StableHlo.held (c.tc : Thread nD τ) (ucRefs τ sig) V4)

theorem link0 (c : Dev nD) : T₀ m c ⊢ (sg0 m).pre c := .rfl
theorem link1 (c : Dev nD) : (sg0 m).post c ⊢ (sg1 m).pre c := by
  show (stt c (V1 m c) : sProp 𝕄) ⊢ iprop(∃ V, ⌜V = V1 m c⌝ ∗ stt c V)
  iintro H
  iexists V1 m c
  isplitr; · ipureintro; rfl
  iexact H
theorem link2 (c : Dev nD) : (sg1 m).post c ⊢ (sg2 m).pre c := by
  show (iprop(∃ V, ⌜V = V1 m c⌝ ∗ ∃ V', ⌜Step 0 c V V'⌝ ∗ stt c V') : sProp 𝕄) ⊢ iprop(∃ V, ⌜Step 0 c (V1 m c) V⌝ ∗ stt c V)
  iintro ⟨%V, %hV, %V', %h, H⟩
  iexists V'
  isplitr; · ipureintro; exact hV ▸ h
  iexact H
theorem link3 (c : Dev nD) : (sg2 m).post c ⊢ (sg3 m).pre c := by
  show (iprop(∃ V, ⌜Step 0 c (V1 m c) V⌝ ∗ stt c (StableHlo.after hostOps1 V)) : sProp 𝕄)
    ⊢ iprop(∃ V, ⌜∃ V2, Step 0 c (V1 m c) V2 ∧ V = StableHlo.after hostOps1 V2⌝ ∗ stt c V)
  iintro ⟨%V, %hV, H⟩
  iexists StableHlo.after hostOps1 V
  isplitr; · ipureintro; exact ⟨V, hV, rfl⟩
  iexact H
theorem link4 (c : Dev nD) : (sg3 m).post c ⊢ iprop(Tₙ m c ∗ Rw c) := by
  show (iprop(∃ V, ⌜∃ V2, Step 0 c (V1 m c) V2 ∧ V = StableHlo.after hostOps1 V2⌝ ∗ ∃ V', ⌜Step 1 c V V'⌝ ∗ stt c V') : sProp 𝕄) ⊢ _
  unfold stt Tₙ
  iintro ⟨%V, %hV, %V', %h, Hh, HO⟩
  isplitl [Hh]
  · iexists V'
    isplitr
    · ipureintro
      obtain ⟨V2, h2, rfl⟩ := hV
      exact ⟨V2, h2, h⟩
    iexact Hh
  iexact HO

abbrev segs : List (CSeg (pcfgs (F := F)) adm (defs₀ (F := F)) 𝒱₀ L lv loops (tk m)) := [sg0 m, sg1 m, sg2 m, sg3 m]

/-- @main over the labels of no host loops. -/
def mainL (c : Dev nD) : Prog (TpuEff nD τ sig (Elt F) (HostLoop.Sig (Pipeline.Sig Λ₀ (Fin 2) fun p => (pcfgs (F := F) p).Adm) 0) .tc) PUnit :=
  Pipeline.chain [StableHlo.seq hostOps0, Prog.lift (.customCall (HostLoop.inner (Pipeline.entry 0)) ()),
    StableHlo.seq hostOps1, Prog.lift (.customCall (HostLoop.inner (Pipeline.entry 1)) ())]

theorem mainL_eq (c : Dev nD) : HostLoop.liftProg (L := 0) (main (F := F) c) = mainL c := by
  rw [main_chain, HostLoop.liftProg_chain]
  simp only [List.map_cons, List.map_nil, HostLoop.liftProg_seq]
  rfl

theorem hinit1 (g : Dev nD → PrngReg) (c : Dev nD) :
    (iprop(unscopedBufs c (fun b => m ((c.tc : Thread nD τ).loc b)) ∗ unscopedSems0 c ∗ owes (c.tc : Thread nD τ) (0 : CellTallies nD τ sig Unit) ∅
          ∗ Pipeline.launchCred (fun _ => (0 : CellTallies nD τ sig Unit)) c ∗ prngReg c (g c) ∗ BI.emp) : sProp 𝕄) ⊢ T₀ m c := by
  rw [show unscopedBufs c (fun b => m ((c.tc : Thread nD τ).loc b)) = (StableHlo.held (c : Thread nD τ) (ucRefs τ sig) (V0 m c) : sProp 𝕄) from Pipeline.unscopedBufs_held c (V0 m c)]
  unfold T₀ stt
  iintro ⟨HB, -, HO, -⟩
  isplitl [HB]; · iexact HB
  iexists ∅; iexact HO

theorem hinit (g : Dev nD → PrngReg) :
    iprop((bigSep Finset.univ fun c : Dev nD => iprop(unscopedBufs c (fun b => m ((c.tc : Thread nD τ).loc b)) ∗ unscopedSems0 c ∗ owes (c.tc : Thread nD τ) (0 : CellTallies nD τ sig Unit) ∅
          ∗ Pipeline.launchCred (fun _ => (0 : CellTallies nD τ sig Unit)) c ∗ prngReg c (g c) ∗ BI.emp)) ∗ levAts L lv)
      ⊢ (|={Set.univ}=> bigSep Finset.univ (T₀ m) : sProp 𝕄) := by
  iintro ⟨H, -⟩
  imodintro
  iapply (show _ ⊢ (bigSep Finset.univ (T₀ m) : sProp 𝕄) from bigSep_mono (s := Finset.univ) fun c _ => hinit1 m g c) $$ H

set_option backward.isDefEq.respectTransparency.types false in
/-- The run over the labels of no host loops. -/
theorem runL (g : Dev nD → PrngReg) : θ_run (HostLoop.defs (L := 0) (loops (F := F)) (defs (F := F))) (onTc (τ := τ) (mainL (F := F))) ⟨m, fun _ => 0, g⟩
    (fun r => (∀ c : Dev nD, ∃ V2 V4, Out m c V2 V4 ∧ ∀ b ∈ ucRefs τ sig, r.2.mem (((c : Thread nD τ)).1, b) = V4 b) ∧ r.2.sem = fun _ => 0) :=
  Pipeline.θ_run_regions_loop_kit_sems (pcfgs (F := F)) adm cellOf_inj (defs₀ (F := F)) 𝒱₀ L lv loops (tk m) m g mainL (segs m)
    (fun c Q => .rfl)
    (by
      simp only [segs, List.pairwise_cons, List.mem_cons, List.not_mem_nil, _root_.or_false, forall_eq_or_imp, forall_eq, false_implies, implies_true, _root_.and_true, List.Pairwise.nil]
      refine ⟨⟨?_, ?_, ?_⟩, ⟨?_, ?_⟩, ?_⟩
      · exact Finset.disjoint_empty_left _
      · exact Finset.disjoint_empty_left _
      · exact Finset.disjoint_empty_left _
      · exact Finset.disjoint_empty_right _
      · show Disjoint ({0} : Finset (Fin 2)) {1}; decide
      · exact Finset.disjoint_empty_left _)
    (O₀ := fun _ => 0) (hL := fun _ _ => rfl) (G := fun _ => BI.emp)
    (u₀ := ((fun _ => Rounds.initOf (Pipeline.cells (pin (pcfgs (F := F)) adm) cellOf_inj) (Pipeline.launchToks (pin (pcfgs (F := F)) adm) cellOf_inj)), 1))
    (hu₀ := by
      iintro Hu
      ihave H := (ownU_pair _ _) $$ Hu
      icases H with ⟨H, -⟩
      ihave H := (own_iprod _) $$ H
      imodintro
      isplitl [H]; · iexact H
      iapply (show (BI.emp : sProp 𝕄) ⊢ bigSep Finset.univ fun _ : Dev nD => BI.emp from Entails.of_eq (BI.bigSep_emp_const (Finset.univ : Finset (Dev nD))).symm)
      iempintro)
    (T₀ := T₀ m) (Tₙ := Tₙ m)
    (hch := ⟨link0 m, link1 m, link2 m, link3 m, link4 m⟩)
    (hinit := hinit m g)
    (QY := fun c s => ∃ V2 V4, Out m c V2 V4 ∧ ∀ b ∈ ucRefs τ sig, s.mem (((c : Thread nD τ)).1, b) = V4 b)
    (hfin := fun c s' => by
      unfold Tₙ StableHlo.held
      iintro ⟨⟨%V4, %hV, Hh⟩, HSI⟩
      ihave Hr := (pointsTo_read_all (ucRefs τ sig) (fun b => ((c : Thread nD τ).1, b)) V4 s') $$ [Hh HSI]
      · isplitl [Hh] <;> iassumption
      icases Hr with ⟨%h, HSI⟩
      imodintro
      isplitr
      · ipureintro
        obtain ⟨V2, hV⟩ := hV
        exact ⟨V2, V4, hV, h⟩
      iexact HSI)
    (hQ := fun _ h hz => ⟨h, funext fun g => hz g (.inr (regions_no_unscoped g.2))⟩)

/-- The run of @main. -/
theorem run (g : Dev nD → PrngReg) : θ_run (defs (F := F)) (onTc (τ := τ) (main (F := F))) ⟨m, fun _ => 0, g⟩
    (fun r => (∀ c : Dev nD, ∃ V2 V4, Out m c V2 V4 ∧ ∀ b ∈ ucRefs τ sig, r.2.mem (((c : Thread nD τ)).1, b) = V4 b) ∧ r.2.sem = fun _ => 0) :=
  HostLoop.θ_run_of_lift (fun l => l.elim0) (defs (F := F)) (main (F := F)) _ _ (by simpa only [mainL_eq] using runL m g)

/-! ## What no call changes -/

/-- A call changes only the arrays of its output windows. -/
theorem Step.keep {q : Fin 2} {c : Dev nD} {V V' : Valuation τ sig (Elt F)} (h : Step q c V V')
    (hA : ∀ w, (rdats V q c).A w = V (Proc.devRef .tc (Pipeline.arrRef (pin (pcfgs (F := F)) adm q).spec w)))
    (os : List (Ref sig .tc)) (hos : ∀ w, ((pin (pcfgs (F := F)) adm q).win w).isOut = true → Pipeline.arrRef (pin (pcfgs (F := F)) adm q).spec w ∈ os)
    (r : Ref sig .tc) (hr : r ∉ os) : V' r = V r := by
  by_cases hm : r ∈ Finset.univ.image (Pipeline.arrRef (pin (pcfgs (F := F)) adm q).spec)
  · obtain ⟨w, -, rfl⟩ := Finset.mem_image.mp hm
    have hin : ((pin (pcfgs (F := F)) adm q).win w).isOut = false := by
      cases hw : ((pin (pcfgs (F := F)) adm q).win w).isOut with
      | false => rfl
      | true => exact absurd (hos w hw) hr
    have := h.1 w
    rw [RDat.ArrAt_in _ w hin] at this
    exact this.trans (hA w)
  · exact h.2 r hm

theorem Step.keep0 {c : Dev nD} {V V' : Valuation τ sig (Elt F)} (h : Step 0 c V V') (r : Ref sig .tc)
    (hr : r ∉ ([main_v0_0, main_call0_v1_1, main_call0_v1_2] : List (Ref sig .tc))) : V' r = V r :=
  h.keep (fun _ => rfl) _ (show ∀ w : Fin cfg0.W, (cfg0.win w).isOut = true → Pipeline.arrRef cfg0.spec w ∈ ([main_v0_0, main_call0_v1_1, main_call0_v1_2] : List (Ref sig .tc)) from by decide) r hr

theorem Step.keep1 {c : Dev nD} {V V' : Valuation τ sig (Elt F)} (h : Step 1 c V V') (r : Ref sig .tc)
    (hr : r ∉ ([main_v0_1] : List (Ref sig .tc))) : V' r = V r :=
  h.keep (fun _ => rfl) _ (show ∀ w : Fin cfg1.W, (cfg1.win w).isOut = true → Pipeline.arrRef cfg1.spec w ∈ ([main_v0_1] : List (Ref sig .tc)) from by decide) r hr

/-- A reference that nothing writes ends as it began. -/
theorem Out.keep {c : Dev nD} {V2 V4 : Valuation τ sig (Elt F)} (h : Out m c V2 V4) (r : Ref sig .tc)
    (hr : r ∉ ([main_v0_0, main_call0_v1_1, main_call0_v1_2] : List (Ref sig .tc)) ∧ r ∉ ([main_v0_1] : List (Ref sig .tc)) ∧ r ∉ hostOps0_W ∧ r ∉ hostOps1_W) :
    V4 r = m ((c : Thread nD τ).loc r) :=
  (h.2.keep1 r hr.2.1).trans <| (StableHlo.after_of_writes_sub hostOps1 V2 hostOps1_writes hr.2.2.2).trans <| (h.1.keep0 r hr.1).trans (V1_of m c r hr.2.2.1)

/-- The references that outlive the calls. -/
theorem mem_uc (r : Ref sig .tc) (h : ¬ (Proc.devRef .tc r : DevRef τ sig).isScoped) : (Proc.devRef .tc r : DevRef τ sig) ∈ ucRefs τ sig :=
  Finset.mem_filter.mpr ⟨StableHlo.devRef_mem_tcRefs r, h⟩

/-- Every run leaves the arguments as they were and every semaphore at zero. -/
theorem frame (g : Dev nD → PrngReg) : θ_run (defs (F := F)) (onTc (τ := τ) (main (F := F))) ⟨m, fun _ => 0, g⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => by
    obtain ⟨V2, V4, ho, hb⟩ := h.1 c
    exact ⟨(hb _ (mem_uc main_arg0 (by decide))).trans (ho.keep m main_arg0 (by decide)),
      (hb _ (mem_uc main_arg1 (by decide))).trans (ho.keep m main_arg1 (by decide)),
      (hb _ (mem_uc main_arg2 (by decide))).trans (ho.keep m main_arg2 (by decide)),
      (hb _ (mem_uc main_arg3 (by decide))).trans (ho.keep m main_arg3 (by decide)),
      (hb _ (mem_uc main_arg4 (by decide))).trans (ho.keep m main_arg4 (by decide)),
      (hb _ (mem_uc main_arg5 (by decide))).trans (ho.keep m main_arg5 (by decide))⟩, h.2⟩) (run m g)

end Cert.KernelIdeal.Run

end
-- ==== Proof.KernelIdeal.Values.lean ====
/-
  What the idealized kernel's runs leave in its result arrays, as functions of the arguments: the first call leaves the first layer, the
  adjacency matrix times 6 and the second support times 6⁻¹; the second call leaves the second layer.

  A block's rows past the array's end are never written back, so every entry written back comes from a row of the array.
-/
module

public import proofs.«01_k».proof.Proof.KernelIdeal.Entries
public import proofs.«01_k».proof.Proof.KernelIdeal.Run
public import Idealize.ShloMosaic.Lib.Pipeline.ArrRel

@[expose] public section

set_option maxRecDepth 16384

noncomputable section

namespace Cert.KernelIdeal.Value

open Cert.KernelIdeal Cert.KernelIdeal.Gen Cert.KernelIdeal.Run
open Idealize.ShloMosaic Idealize.ShloMosaic.TcCoe
open Idealize.ShloMosaic.Pipeline (Dat RDat)

/-! ## The windows' index maps and the blocks' sizes inside the arrays -/

theorem idx0 : ∀ t : Fin cfg0.N, win0_0.index t = ![0, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, _)

theorem idx1 : ∀ t : Fin cfg1.N, win1_0.index t = ![0, 0] ∧ win1_1.index t = ![0, 0] ∧ win1_2.index t = ![t.val, 0] ∧ win1_3.index t = ![t.val, 0] :=
  (by decide +kernel : ∀ t : Fin grid1.N, _)

theorem xsize0 : ∀ t : Fin cfg0.N, win0_4.xsize (grid0.coords t) 1 = 10000 ∧ win0_5.xsize (grid0.coords t) 0 = win0_4.xsize (grid0.coords t) 0
    ∧ win0_6.xsize (grid0.coords t) 0 = win0_4.xsize (grid0.coords t) 0 ∧ win0_7.xsize (grid0.coords t) 0 = win0_4.xsize (grid0.coords t) 0 :=
  (by decide +kernel : ∀ t : Fin grid0.N, _)

theorem xsize1 : ∀ t : Fin cfg1.N, win1_2.xsize (grid1.coords t) 1 = 10000 ∧ win1_3.xsize (grid1.coords t) 0 = win1_2.xsize (grid1.coords t) 0 :=
  (by decide +kernel : ∀ t : Fin grid1.N, _)

/-! ## The operands -/

section Operands

variable (V : Valuation τ sig (Elt Ideal))

theorem opX_eq : opX V = (V (Proc.devRef .tc main_arg0) : FVec Ideal S10000x128 .f32) :=
  (show ∀ t : Fin cfg0.N, (blk0 V 0 t : FVec Ideal S10000x128 .f32) = (V (Proc.devRef .tc main_arg0) : FVec Ideal S10000x128 .f32) from fun t => by blk_ext! [blk0, idx0 t]) _
theorem opW1_eq : opW1 V = (V (Proc.devRef .tc main_arg2) : FVec Ideal S128x128 .f32) :=
  (show ∀ t : Fin cfg0.N, (blk0 V 1 t : FVec Ideal S128x128 .f32) = (V (Proc.devRef .tc main_arg2) : FVec Ideal S128x128 .f32) from fun t => by blk_ext! [blk0, idx0 t]) _
theorem opB1_eq : opB1 V = (V (Proc.devRef .tc main_call0_v0) : FVec Ideal S1x128 .f32) :=
  (show ∀ t : Fin cfg0.N, (blk0 V 2 t : FVec Ideal S1x128 .f32) = (V (Proc.devRef .tc main_call0_v0) : FVec Ideal S1x128 .f32) from fun t => by blk_ext! [blk0, idx0 t]) _
theorem opW2_eq : opW2 V = (V (Proc.devRef .tc main_arg4) : FVec Ideal S128x40 .f32) :=
  (show ∀ t : Fin cfg0.N, (blk0 V 3 t : FVec Ideal S128x40 .f32) = (V (Proc.devRef .tc main_arg4) : FVec Ideal S128x40 .f32) from fun t => by blk_ext! [blk0, idx0 t]) _
theorem opS2_eq : opS2 V = (V (Proc.devRef .tc main_call0_v1_2) : FVec Ideal S10000x40 .fp8e4m3) :=
  (show ∀ t : Fin cfg1.N, (blk1 V 0 t : FVec Ideal S10000x40 .fp8e4m3) = (V (Proc.devRef .tc main_call0_v1_2) : FVec Ideal S10000x40 .fp8e4m3) from fun t => by blk_ext! [blk1, idx1 t]) _
theorem opB2_eq : opB2 V = (V (Proc.devRef .tc main_call0_v2) : FVec Ideal S1x40 .f32) :=
  (show ∀ t : Fin cfg1.N, (blk1 V 1 t : FVec Ideal S1x40 .f32) = (V (Proc.devRef .tc main_call0_v2) : FVec Ideal S1x40 .f32) from fun t => by blk_ext! [blk1, idx1 t]) _

/-- A row of the adjacency block that lies inside the array is the array's row. -/
theorem opAdj_row (t : Fin cfg0.N) (d : FVec Ideal S512x10000 .f32) (r : Fin 512) (r' : Fin 10000) (hr : r.val < win0_4.xsize (grid0.coords t) 0)
    (hr' : r'.val = t.val * 512 + r.val) (k : Fin 10000) :
    opAdj V t d (ix2 r k) = (V (Proc.devRef .tc main_arg1) : FVec Ideal S10000x10000 .f32) (ix2 r' k) := by
  have hm : win0_4.moved (grid0.coords t) (ix2 r k) = true := (win0_4.moved_iff _ _).mpr fun a => by
    match a with
    | ⟨0, _⟩ => exact hr
    | ⟨1, _⟩ => exact lt_of_lt_of_eq k.isLt (xsize0 t).1.symm
  unfold opAdj Pipeline.Window.fill
  rw [dif_pos hm]
  blk_ext [blk0, idx0 t]

/-- The same of the second call's left operand. -/
theorem opQ_row (t : Fin cfg1.N) (d : FVec Ideal S1024x10000 .fp8e4m3) (r : Fin 1024) (r' : Fin 10000) (hr : r.val < win1_2.xsize (grid1.coords t) 0)
    (hr' : r'.val = t.val * 1024 + r.val) (k : Fin 10000) :
    opQ V t d (ix2 r k) = (V (Proc.devRef .tc main_call0_v1_1) : FVec Ideal S10000x10000 .fp8e4m3) (ix2 r' k) := by
  have hm : win1_2.moved (grid1.coords t) (ix2 r k) = true := (win1_2.moved_iff _ _).mpr fun a => by
    match a with
    | ⟨0, _⟩ => exact hr
    | ⟨1, _⟩ => exact lt_of_lt_of_eq k.isLt (xsize1 t).1.symm
  unfold opQ Pipeline.Window.fill
  rw [dif_pos hm]
  blk_ext [blk1, idx1 t]

end Operands

/-! ## What each call leaves -/

section Calls

variable {c : Dev nD} {V V' : Valuation τ sig (Elt Ideal)}

/-- After the first call, a result array every written-back entry of which is determined holds those entries. -/
theorem step0_eq (h : Step 0 c V V') (w : Fin cfg0.W) (hw : fgt0 w = true) (hcov : (cfg0.win w).Covers)
    (harr : (cfg0.win w).arr.IsWhole) (G : Buf (Elt Ideal) ((cfg0.win w).arr.view.loc (c.tc : Thread nD τ)))
    (hG : ∀ t Y, Rl0 V w t Y → ∀ y : ((cfg0.win w).xblock (cfg0.grid.coords t)).Idx,
      cast (congrArg (Elt Ideal) ((cfg0.win w).blk t).view.elt_eq.symm) (Y ((cfg0.win w).xinj (cfg0.grid.coords t) y)) = G (((cfg0.win w).blk t).view.emb y)) :
    V' (Proc.devRef .tc (Pipeline.arrRef spec0 w)) = G := by
  obtain ⟨after, hL, hA⟩ := RDat.ArrAt.exists_exact_all (rd := (dat0 (U := UU) V c).toRRel fgt0 (Rl0 V))
    (G := fun w => V' (Proc.devRef .tc (Pipeline.arrRef spec0 w))) h.1
  exact (hA w).trans (Dat.arrAt_eq_of_covers _ w G hcov (fun t hf y => hG t _ (Dat.toRRel_leaves _ hw (hL w t t.isLt hf)) y) harr)

/-- The same of the second call. -/
theorem step1_eq (h : Step 1 c V V') (w : Fin cfg1.W) (hw : fgt1 w = true) (hcov : (cfg1.win w).Covers)
    (harr : (cfg1.win w).arr.IsWhole) (G : Buf (Elt Ideal) ((cfg1.win w).arr.view.loc (c.tc : Thread nD τ)))
    (hG : ∀ t Y, Rl1 V w t Y → ∀ y : ((cfg1.win w).xblock (cfg1.grid.coords t)).Idx,
      cast (congrArg (Elt Ideal) ((cfg1.win w).blk t).view.elt_eq.symm) (Y ((cfg1.win w).xinj (cfg1.grid.coords t) y)) = G (((cfg1.win w).blk t).view.emb y)) :
    V' (Proc.devRef .tc (Pipeline.arrRef spec1 w)) = G := by
  obtain ⟨after, hL, hA⟩ := RDat.ArrAt.exists_exact_all (rd := (dat1 (U := UU) V c).toRRel fgt1 (Rl1 V))
    (G := fun w => V' (Proc.devRef .tc (Pipeline.arrRef spec1 w))) h.1
  exact (hA w).trans (Dat.arrAt_eq_of_covers _ w G hcov (fun t hf y => hG t _ (Dat.toRRel_leaves _ hw (hL w t t.isLt hf)) y) harr)

/-- Two arrays of rows of one length agree at two indices of one column if they agree there, spelt by row and column. -/
theorem at_entry {m m' n : ℕ} {α : Type} (P : (⟨2, ![m, n]⟩ : Shape).Idx → α) (G : (⟨2, ![m', n]⟩ : Shape).Idx → α) (j : (⟨2, ![m, n]⟩ : Shape).Idx)
    (i : (⟨2, ![m', n]⟩ : Shape).Idx) (hc : (i 1).val = (j 1).val) (h : P (ix2 (j 0) (j 1)) = G (ix2 (i 0) (j 1))) : P j = G i :=
  (congrArg P (eq_ix2 j)).trans <| h.trans <| congrArg G <| by
    rw [eq_ix2 i]; exact congrArg (ix2 (i 0)) (Fin.ext hc.symm)

variable (X : FVec Ideal S10000x128 .f32) (A : FVec Ideal S10000x10000 .f32) (W1 : FVec Ideal S128x128 .f32) (b1 : FVec Ideal S128 .f32)
  (W2 : FVec Ideal S128x40 .f32) (b2 : FVec Ideal S40 .f32)

/-- What the first call starts from: the arguments, the first bias as a row. -/
structure Start0 (V : Valuation τ sig (Elt Ideal)) : Prop where
  x : (V (Proc.devRef .tc main_arg0) : FVec Ideal S10000x128 .f32) = X
  adj : (V (Proc.devRef .tc main_arg1) : FVec Ideal S10000x10000 .f32) = A
  w1 : (V (Proc.devRef .tc main_arg2) : FVec Ideal S128x128 .f32) = W1
  b1 : ∀ c, (V (Proc.devRef .tc main_call0_v0) : FVec Ideal S1x128 .f32) (ix2 0 c) = b1 (ix1 c)
  w2 : (V (Proc.devRef .tc main_arg4) : FVec Ideal S128x40 .f32) = W2

variable {X A W1 b1 W2 b2}

theorem Start0.s1 (hs : Start0 X A W1 b1 W2 V) : opS1 V = refS1 X W1 := by
  unfold opS1; rw [opX_eq, opW1_eq, hs.x, hs.w1, pay1_eq]

theorem Start0.row (hs : Start0 X A W1 b1 W2 V) (t : Fin cfg0.N) (d : FVec Ideal S512x10000 .f32) (r : Fin 512) (r' : Fin 10000)
    (hr : r.val < win0_4.xsize (grid0.coords t) 0) (hr' : r'.val = t.val * 512 + r.val) (k : Fin 10000) : opAdj V t d (ix2 r k) = A (ix2 r' k) :=
  (opAdj_row V t d r r' hr hr' k).trans (congrFun hs.adj _)

/-- The first call leaves the first layer. -/
theorem h_eq (hs : Start0 X A W1 b1 W2 V) (h : Step 0 c V V') : (V' (Proc.devRef .tc main_v0_0) : FVec Ideal S10000x128 .f32) = refH X A W1 b1 :=
  step0_eq h 5 rfl (by decide +kernel) (Memref.isWhole_whole _) _ fun t Y hY y => by
    obtain ⟨d, rfl⟩ := hY
    refine at_entry (k0_pay2 (opAdj V t d) (opS1 V) (opB1 V)) (refH X A W1 b1) (win0_5.xinj (grid0.coords t) y) ((win0_5.blk t).view.emb y) (by blk_simp [idx0 t]) ?_
    rw [hs.s1, opB1_eq]
    exact pay2_agree X A W1 b1 hs.b1 (hs.row t d _ _ (lt_of_lt_of_eq (y 0).isLt (xsize0 t).2.1) (by blk_simp [idx0 t])) _

/-- The first call leaves the adjacency matrix times 6. -/
theorem adjq_eq (hs : Start0 X A W1 b1 W2 V) (h : Step 0 c V V') :
    (V' (Proc.devRef .tc main_call0_v1_1) : FVec Ideal S10000x10000 .fp8e4m3) = fun i => A i * ((6 : ℝ) : EReal) :=
  step0_eq h 6 rfl (by decide +kernel) (Memref.isWhole_whole _) _ fun t Y hY y => by
    obtain ⟨d, rfl⟩ := hY
    refine at_entry (k0_pay3 (F := Ideal) (opAdj V t d)) (fun i => A i * ((6 : ℝ) : EReal)) (win0_6.xinj (grid0.coords t) y) ((win0_6.blk t).view.emb y) (by blk_simp [idx0 t]) ?_
    exact (pay3_apply _ _ _).trans (congrArg (· * ((6 : ℝ) : EReal)) (hs.row t d _ _ (lt_of_lt_of_eq (y 0).isLt (xsize0 t).2.2.1) (by blk_simp [idx0 t]) _))

/-- The first call leaves the second support times 6⁻¹. -/
theorem s2q_eq (hs : Start0 X A W1 b1 W2 V) (h : Step 0 c V V') :
    (V' (Proc.devRef .tc main_call0_v1_2) : FVec Ideal S10000x40 .fp8e4m3) = fun i => refS2 X A W1 b1 W2 i * ((6⁻¹ : ℝ) : EReal) :=
  step0_eq h 7 rfl (by decide +kernel) (Memref.isWhole_whole _) _ fun t Y hY y => by
    obtain ⟨d, rfl⟩ := hY
    refine at_entry (k0_pay4 (F := Ideal) (opAdj V t d) (opS1 V) (opB1 V) (opW2 V)) (fun i => refS2 X A W1 b1 W2 i * ((6⁻¹ : ℝ) : EReal))
      (win0_7.xinj (grid0.coords t) y) ((win0_7.blk t).view.emb y) (by blk_simp [idx0 t]) ?_
    rw [hs.s1, opB1_eq, opW2_eq, hs.w2]
    exact pay4_agree X A W1 b1 W2 hs.b1 (hs.row t d _ _ (lt_of_lt_of_eq (y 0).isLt (xsize0 t).2.2.2) (by blk_simp [idx0 t])) _

/-- The second call leaves the second layer. -/
theorem out_eq (hq : (V (Proc.devRef .tc main_call0_v1_1) : FVec Ideal S10000x10000 .fp8e4m3) = fun i => A i * ((6 : ℝ) : EReal))
    (hs : (V (Proc.devRef .tc main_call0_v1_2) : FVec Ideal S10000x40 .fp8e4m3) = fun i => refS2 X A W1 b1 W2 i * ((6⁻¹ : ℝ) : EReal))
    (hb : ∀ c, (V (Proc.devRef .tc main_call0_v2) : FVec Ideal S1x40 .f32) (ix2 0 c) = b2 (ix1 c)) (h : Step 1 c V V') :
    (V' (Proc.devRef .tc main_v0_1) : FVec Ideal S10000x40 .f32) = refOut X A W1 b1 W2 b2 :=
  step1_eq h 3 rfl (by decide +kernel) (Memref.isWhole_whole _) _ fun t Y hY y => by
    obtain ⟨d, rfl⟩ := hY
    refine at_entry (k1_pay1 (F := Ideal) (opQ V t d) (opS2 V) (opB2 V)) (refOut X A W1 b1 W2 b2) (win1_3.xinj (grid1.coords t) y) ((win1_3.blk t).view.emb y)
      (by blk_simp [idx1 t]) ?_
    rw [opS2_eq, opB2_eq]
    exact pay1'_agree X A W1 b1 W2 b2 hb
      (fun k => (opQ_row V t d _ _ (lt_of_lt_of_eq (y 0).isLt (xsize1 t).2) (by blk_simp [idx1 t]) k).trans (congrFun hq _))
      (fun k c => congrFun hs _) _

end Calls

/-! ## What every run leaves -/

section Runs

variable (m : (ℓ : Loc nD τ sig) → Buf (Elt Ideal) ℓ) (c : Dev nD)

/-- The arguments as launched. -/
abbrev aX : FVec Ideal S10000x128 .f32 := m ((c : Thread nD τ).loc main_arg0)
abbrev aA : FVec Ideal S10000x10000 .f32 := m ((c : Thread nD τ).loc main_arg1)
abbrev aW1 : FVec Ideal S128x128 .f32 := m ((c : Thread nD τ).loc main_arg2)
abbrev aB1 : FVec Ideal S128 .f32 := m ((c : Thread nD τ).loc main_arg3)
abbrev aW2 : FVec Ideal S128x40 .f32 := m ((c : Thread nD τ).loc main_arg4)
abbrev aB2 : FVec Ideal S40 .f32 := m ((c : Thread nD τ).loc main_arg5)

/-- A vector reshaped to one row, at an entry. -/
theorem row_apply {n : ℕ} (b : FVec Ideal ⟨1, ![n]⟩ .f32) (h : (⟨1, ![n]⟩ : Shape).ShapeCasts ⟨2, ![1, n]⟩) (k : Fin n) :
    shapeCast ⟨2, ![1, n]⟩ b h (ix2 0 k) = b (ix1 k) :=
  (shapeCast_addUnit_apply ![n] b h (ix2 0 k)).trans (congrArg b (by funext a; obtain rfl : a = 0 := Subsingleton.elim _ _; rfl))

theorem v0_eq (V : Valuation τ sig (Elt Ideal)) : (StableHlo.after hostOps0 V (Proc.devRef .tc main_call0_v0) : FVec Ideal S1x128 .f32)
    = shapeCast S1x128 (V (Proc.devRef .tc main_arg3) : FVec Ideal S128 .f32) shapeCasts_S128_S1x128 := by
  simp only [StableHlo.after_cons, StableHlo.after_nil]
  exact StableHlo.reshape_result _ _ _ _ _ _ V

theorem v2_eq (V : Valuation τ sig (Elt Ideal)) : (StableHlo.after hostOps1 V (Proc.devRef .tc main_call0_v2) : FVec Ideal S1x40 .f32)
    = shapeCast S1x40 (V (Proc.devRef .tc main_arg5) : FVec Ideal S40 .f32) shapeCasts_S40_S1x40 := by
  simp only [StableHlo.after_cons, StableHlo.after_nil]
  exact StableHlo.reshape_result _ _ _ _ _ _ V

theorem start0 : Start0 (aX m c) (aA m c) (aW1 m c) (aB1 m c) (aW2 m c) (V1 m c) where
  x := V1_of m c main_arg0 (by decide)
  adj := V1_of m c main_arg1 (by decide)
  w1 := V1_of m c main_arg2 (by decide)
  b1 k := (congrFun (v0_eq (V0 m c)) _).trans (row_apply _ _ k)
  w2 := V1_of m c main_arg4 (by decide)

variable {m c} {V2 V4 : Valuation τ sig (Elt Ideal)}

/-- Every run leaves the first layer in the first result array. -/
theorem out_h (ho : Out m c V2 V4) : (V4 (Proc.devRef .tc main_v0_0) : FVec Ideal S10000x128 .f32) = refH (aX m c) (aA m c) (aW1 m c) (aB1 m c) :=
  (ho.2.keep1 main_v0_0 (by decide)).trans <| (StableHlo.after_of_writes_sub hostOps1 V2 hostOps1_writes (by decide)).trans <| h_eq (start0 m c) ho.1

/-- Every run leaves the second layer in the second result array. -/
theorem out_out (ho : Out m c V2 V4) :
    (V4 (Proc.devRef .tc main_v0_1) : FVec Ideal S10000x40 .f32) = refOut (aX m c) (aA m c) (aW1 m c) (aB1 m c) (aW2 m c) (aB2 m c) :=
  out_eq ((StableHlo.after_of_writes_sub hostOps1 V2 hostOps1_writes (by decide)).trans (adjq_eq (start0 m c) ho.1))
    ((StableHlo.after_of_writes_sub hostOps1 V2 hostOps1_writes (by decide)).trans (s2q_eq (start0 m c) ho.1))
    (fun k => ((congrFun (v2_eq V2) _).trans (row_apply _ _ k)).trans (congrFun ((ho.1.keep0 main_arg5 (by decide)).trans (V1_of m c main_arg5 (by decide))) _)) ho.2

end Runs

end Cert.KernelIdeal.Value

end
-- ==== Proof.Reference.lean ====
/-
  The reference's run leaves its arguments as they were and every semaphore at zero.
-/
module

public import proofs.«01_k».proof.Proof.Gen.ReferenceIdeal.Run
public import proofs.«01_k».proof.Defs
public import Idealize.ShloMosaic.Adequacy
public import Idealize.ShloMosaic.Init
public import Idealize.ShloMosaic.Lib.Quiescent

@[expose] public section

noncomputable section

namespace Cert.ReferenceIdeal.Value

open Cert.ReferenceIdeal Cert.ReferenceIdeal.Gen
open Idealize.ShloMosaic Idealize.ShloMosaic.TcCoe Idealize.SL.Sem

/-- Every run leaves the arguments as they were and every semaphore at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2, sem_eq_zero_of_no_sems (by decide) r.2⟩) (run (F := Ideal) m g)

end Cert.ReferenceIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Values
public import proofs.«01_k».proof.Proof.Reference
public import Idealize.ShloMosaic.Adequacy
public import Idealize.ShloMosaic.Init

@[expose] public section

noncomputable section

namespace Cert.Proof

open Idealize.ShloMosaic Idealize.SL.Sem

open Cert.KernelIdeal.Run Cert.KernelIdeal.Value in
/-- The kernel's runs and the reference's end with the same two results: both layers, written by the reference's own formula. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => refH (aX m c) (aA m c) (aW1 m c) (aB1 m c), fun c => refOut (aX m c) (aA m c) (aW1 m c) (aB1 m c) (aW2 m c) (aB2 m c), ?_, ?_⟩
  · refine (θ_run _ _ _).mono (fun r h c => ?_) (Cert.KernelIdeal.Run.run m g)
    obtain ⟨V2, V4, ho, hb⟩ := h.1 c
    exact ⟨(hb _ (mem_uc Cert.KernelIdeal.main_v0_0 (by decide))).trans (out_h ho), (hb _ (mem_uc Cert.KernelIdeal.main_v0_1 (by decide))).trans (out_out ho),
      (hb _ (mem_uc Cert.KernelIdeal.main_arg0 (by decide))).trans (ho.keep m Cert.KernelIdeal.main_arg0 (by decide)),
      (hb _ (mem_uc Cert.KernelIdeal.main_arg1 (by decide))).trans (ho.keep m Cert.KernelIdeal.main_arg1 (by decide)),
      (hb _ (mem_uc Cert.KernelIdeal.main_arg2 (by decide))).trans (ho.keep m Cert.KernelIdeal.main_arg2 (by decide)),
      (hb _ (mem_uc Cert.KernelIdeal.main_arg3 (by decide))).trans (ho.keep m Cert.KernelIdeal.main_arg3 (by decide)),
      (hb _ (mem_uc Cert.KernelIdeal.main_arg4 (by decide))).trans (ho.keep m Cert.KernelIdeal.main_arg4 (by decide)),
      (hb _ (mem_uc Cert.KernelIdeal.main_arg5 (by decide))).trans (ho.keep m Cert.KernelIdeal.main_arg5 (by decide))⟩
  · refine (θ_run Cert.ReferenceIdeal.defs _ _).mono (fun r h c => ?_) (Cert.ReferenceIdeal.Value.run (F := Ideal) m' g')
    obtain ⟨e0, e1, e2, e3, e4, e5⟩ := hm c
    refine ⟨(h c).1.trans ?_, (h c).2.1.trans ?_, (h c).2.2⟩
    · rw [e0, e1, e2, e3]; rfl
    · rw [e0, e1, e2, e3, e4, e5]; rfl

theorem claim : Cert.Claim :=
  ⟨Cert.Kernel.Gen.facts, Cert.KernelIdeal.Gen.facts, Cert.ReferenceIdeal.Gen.facts,
    fun m g _ => Cert.Kernel.Run.frame m g,
    fun m g _ => Cert.KernelIdeal.Run.frame m g,
    fun m g _ => Cert.ReferenceIdeal.Value.frame m g, IdealRules.named_const.statement Cert.KernelIdeal.κ "one_sixth" .f32 0x3E2AAAAB#32 ((6⁻¹ : ℝ) : EReal) rfl,
    algebraic⟩

end Cert.Proof

end
